-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)) (v4 : (c : Dev Cert.KernelIdeal.nD) → Buf (Elt Ideal) ((c.tc : Thread Cert.KernelIdeal.nD Cert.KernelIdeal.τ).loc Cert.KernelIdeal.main_v10)) (v5 : (c : Dev Cert.KernelIdeal.nD) → Buf (Elt Ideal) ((c.tc : Thread Cert.KernelIdeal.nD Cert.KernelIdeal.τ).loc Cert.KernelIdeal.main_v11)) (v6 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_v10) = v4 c
          ∧ r.2.mem ((c.tc : Thread Cert.KernelIdeal.nD Cert.KernelIdeal.τ).loc Cert.KernelIdeal.main_v11) = v5 c
          ∧ r.2.mem ((c.tc : Thread Cert.KernelIdeal.nD Cert.KernelIdeal.τ).loc Cert.KernelIdeal.main_v12) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v20) = v3 c
          ∧ r.2.mem ((c.tc : Thread Cert.ReferenceIdeal.nD Cert.ReferenceIdeal.τ).loc Cert.ReferenceIdeal.main_v50) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_v30) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x2304 : Shape := ⟨3, ![12, 128, 2304]⟩
abbrev S9216x2304 : Shape := ⟨2, ![9216, 2304]⟩
abbrev S9216 : Shape := ⟨1, ![9216]⟩
abbrev S16x2304 : Shape := ⟨2, ![16, 2304]⟩
abbrev S9216x16 : Shape := ⟨2, ![9216, 16]⟩
abbrev S12x128x9216 : Shape := ⟨3, ![12, 128, 9216]⟩
abbrev S12x128 : Shape := ⟨2, ![12, 128]⟩
abbrev S1536x2304 : Shape := ⟨2, ![1536, 2304]⟩
abbrev S9216x1 : Shape := ⟨2, ![9216, 1]⟩
abbrev S16x9216 : Shape := ⟨2, ![16, 9216]⟩
abbrev S1x9216 : Shape := ⟨2, ![1, 9216]⟩
abbrev S1536x9216 : Shape := ⟨2, ![1536, 9216]⟩
abbrev S1536x1 : Shape := ⟨2, ![1536, 1]⟩
abbrev S1536x16 : Shape := ⟨2, ![1536, 16]⟩
abbrev S512x2304 : Shape := ⟨2, ![512, 2304]⟩
abbrev S512x1 : Shape := ⟨2, ![512, 1]⟩
abbrev S512x16 : Shape := ⟨2, ![512, 16]⟩
abbrev S16x512 : Shape := ⟨2, ![16, 512]⟩
abbrev S1x512 : Shape := ⟨2, ![1, 512]⟩
abbrev S1536x512 : Shape := ⟨2, ![1536, 512]⟩
abbrev S512 : Shape := ⟨1, ![512]⟩
abbrev S512x128 : Shape := ⟨2, ![512, 128]⟩
abbrev S128x512 : Shape := ⟨2, ![128, 512]⟩
abbrev S16x1536 : Shape := ⟨2, ![16, 1536]⟩
abbrev S12x128x16 : Shape := ⟨3, ![12, 128, 16]⟩

abbrev nBuf : Space → Nat
  | .hbm => 27
  | .vmem => 29
  | .smem => 0
  | _ => 0

abbrev bufTy : (tb : Table) → Fin (tcTables nBuf tb) → BufTy
  | .hbm, ⟨0, _⟩ => ⟨S12x128x2304, .bf16⟩
  | .hbm, ⟨1, _⟩ => ⟨S9216x2304, .fp8e4m3⟩
  | .hbm, ⟨2, _⟩ => ⟨S9216, .f32⟩
  | .hbm, ⟨3, _⟩ => ⟨S16x2304, .bf16⟩
  | .hbm, ⟨4, _⟩ => ⟨S9216x16, .bf16⟩
  | .hbm, ⟨5, _⟩ => ⟨S9216, .f32⟩
  | .hbm, ⟨6, _⟩ => ⟨S12x128x9216, .fp8e5m2⟩
  | .hbm, ⟨7, _⟩ => ⟨S12x128, .f32⟩
  | .hbm, ⟨8, _⟩ => ⟨S1536x2304, .bf16⟩
  | .hbm, ⟨9, _⟩ => ⟨S9216x1, .f32⟩
  | .hbm, ⟨10, _⟩ => ⟨S16x9216, .bf16⟩
  | .hbm, ⟨11, _⟩ => ⟨S1x9216, .f32⟩
  | .hbm, ⟨12, _⟩ => ⟨S1536x9216, .fp8e5m2⟩
  | .hbm, ⟨13, _⟩ => ⟨S1536x1, .f32⟩
  | .hbm, ⟨14, _⟩ => ⟨S1536x2304, .bf16⟩
  | .hbm, ⟨15, _⟩ => ⟨S16x2304, .bf16⟩
  | .hbm, ⟨16, _⟩ => ⟨S16x9216, .bf16⟩
  | .hbm, ⟨17, _⟩ => ⟨S1x9216, .f32⟩
  | .hbm, ⟨18, _⟩ => ⟨S1536x9216, .bf16⟩
  | .hbm, ⟨19, _⟩ => ⟨S1536x16, .bf16⟩
  | .hbm, ⟨20, _⟩ => ⟨S1536x16, .bf16⟩
  | .hbm, ⟨21, _⟩ => ⟨S12x128x2304, .bf16⟩
  | .hbm, ⟨22, _⟩ => ⟨S9216x16, .bf16⟩
  | .hbm, ⟨23, _⟩ => ⟨S9216, .f32⟩
  | .hbm, ⟨24, _⟩ => ⟨S12x128x9216, .bf16⟩
  | .hbm, ⟨25, _⟩ => ⟨S12x128x16, .bf16⟩
  | .hbm, ⟨26, _⟩ => ⟨S12x128x16, .bf16⟩
  | .local _ .vmem, ⟨0, _⟩ => ⟨S1536x2304, .bf16⟩
  | .local _ .vmem, ⟨1, _⟩ => ⟨S512x2304, .fp8e4m3⟩
  | .local _ .vmem, ⟨2, _⟩ => ⟨S512x2304, .fp8e4m3⟩
  | .local _ .vmem, ⟨3, _⟩ => ⟨S512x1, .f32⟩
  | .local _ .vmem, ⟨4, _⟩ => ⟨S512x1, .f32⟩
  | .local _ .vmem, ⟨5, _⟩ => ⟨S16x2304, .bf16⟩
  | .local _ .vmem, ⟨6, _⟩ => ⟨S512x16, .bf16⟩
  | .local _ .vmem, ⟨7, _⟩ => ⟨S512x16, .bf16⟩
  | .local _ .vmem, ⟨8, _⟩ => ⟨S16x512, .bf16⟩
  | .local _ .vmem, ⟨9, _⟩ => ⟨S16x512, .bf16⟩
  | .local _ .vmem, ⟨10, _⟩ => ⟨S1x512, .f32⟩
  | .local _ .vmem, ⟨11, _⟩ => ⟨S1x512, .f32⟩
  | .local _ .vmem, ⟨12, _⟩ => ⟨S1536x512, .fp8e5m2⟩
  | .local _ .vmem, ⟨13, _⟩ => ⟨S1536x512, .fp8e5m2⟩
  | .local _ .vmem, ⟨14, _⟩ => ⟨S1536x1, .f32⟩
  | .local _ .vmem, ⟨15, _⟩ => ⟨S1536x2304, .bf16⟩
  | .local _ .vmem, ⟨16, _⟩ => ⟨S16x2304, .bf16⟩
  | .local _ .vmem, ⟨17, _⟩ => ⟨S16x512, .bf16⟩
  | .local _ .vmem, ⟨18, _⟩ => ⟨S16x512, .bf16⟩
  | .local _ .vmem, ⟨19, _⟩ => ⟨S1x512, .f32⟩
  | .local _ .vmem, ⟨20, _⟩ => ⟨S1x512, .f32⟩
  | .local _ .vmem, ⟨21, _⟩ => ⟨S1536x512, .bf16⟩
  | .local _ .vmem, ⟨22, _⟩ => ⟨S1536x512, .bf16⟩
  | .local _ .vmem, ⟨23, _⟩ => ⟨S1536x16, .bf16⟩
  | .local _ .vmem, ⟨24, _⟩ => ⟨S1536x16, .bf16⟩
  | .local _ .vmem, ⟨25, _⟩ => ⟨S512x2304, .bf16⟩
  | .local _ .vmem, ⟨26, _⟩ => ⟨S1536x2304, .f32⟩
  | .local _ .vmem, ⟨27, _⟩ => ⟨S16x2304, .f32⟩
  | .local _ .vmem, ⟨28, _⟩ => ⟨S1536x16, .f32⟩
  | _, _ => ⟨S12x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg15_0 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem15_0 : DmaSem sig := 24

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c17_i32 : BitVec 32 := 17#32
  let v95 : BitVec 1 := Scalar.cmpi .eq arg0 c17_i32
  let v96 : BitVec 32 := Scalar.extui v95
  let c0_i32_62 : BitVec 32 := 0#32
  let v97 : BitVec 1 := Scalar.cmpi .ne v96 c0_i32_62
  v97

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2304 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x2304 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x16 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1536x512 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1536x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x2304 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1536x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1536x16 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1536x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ReferenceIdeal.lean ====
abbrev S12x128x2304 : Shape := ⟨3, ![12, 128, 2304]⟩
abbrev S9216x2304 : Shape := ⟨2, ![9216, 2304]⟩
abbrev S9216 : Shape := ⟨1, ![9216]⟩
abbrev S16x2304 : Shape := ⟨2, ![16, 2304]⟩
abbrev S9216x16 : Shape := ⟨2, ![9216, 16]⟩
abbrev S12x128x9216 : Shape := ⟨3, ![12, 128, 9216]⟩
abbrev S12x128 : Shape := ⟨2, ![12, 128]⟩
abbrev S9216x1 : Shape := ⟨2, ![9216, 1]⟩
abbrev S_ : Shape := ⟨0, ![]⟩
abbrev S12x128x1 : Shape := ⟨3, ![12, 128, 1]⟩
abbrev S1x1x9216 : Shape := ⟨3, ![1, 1, 9216]⟩
abbrev S12x128x16 : Shape := ⟨3, ![12, 128, 16]⟩

abbrev nBuf : Space → Nat
  | .hbm => 66
  | .vmem => 4
  | .smem => 0
  | _ => 0

abbrev bufTy : (tb : Table) → Fin (tcTables nBuf tb) → BufTy
  | .hbm, ⟨0, _⟩ => ⟨S12x128x2304, .bf16⟩
  | .hbm, ⟨1, _⟩ => ⟨S9216x2304, .fp8e4m3⟩
  | .hbm, ⟨2, _⟩ => ⟨S9216, .f32⟩
  | .hbm, ⟨3, _⟩ => ⟨S16x2304, .bf16⟩
  | .hbm, ⟨4, _⟩ => ⟨S9216x16, .bf16⟩
  | .hbm, ⟨5, _⟩ => ⟨S9216, .f32⟩
  | .hbm, ⟨6, _⟩ => ⟨S12x128x9216, .fp8e5m2⟩
  | .hbm, ⟨7, _⟩ => ⟨S12x128, .f32⟩
  | .hbm, ⟨8, _⟩ => ⟨S9216x2304, .f32⟩
  | .hbm, ⟨9, _⟩ => ⟨S12x128x9216, .f32⟩
  | .hbm, ⟨10, _⟩ => ⟨S9216x1, .f32⟩
  | .hbm, ⟨11, _⟩ => ⟨S9216x2304, .f32⟩
  | .hbm, ⟨12, _⟩ => ⟨S9216x2304, .f32⟩
  | .hbm, ⟨13, _⟩ => ⟨S9216x2304, .f32⟩
  | .hbm, ⟨14, _⟩ => ⟨S9216x2304, .f32⟩
  | .hbm, ⟨15, _⟩ => ⟨S9216x2304, .f32⟩
  | .hbm, ⟨16, _⟩ => ⟨S_, .f32⟩
  | .hbm, ⟨17, _⟩ => ⟨S9216, .f32⟩
  | .hbm, ⟨18, _⟩ => ⟨S9216, .f32⟩
  | .hbm, ⟨19, _⟩ => ⟨S_, .f32⟩
  | .hbm, ⟨20, _⟩ => ⟨S9216, .f32⟩
  | .hbm, ⟨21, _⟩ => ⟨S9216, .i1⟩
  | .hbm, ⟨22, _⟩ => ⟨S_, .f32⟩
  | .hbm, ⟨23, _⟩ => ⟨S_, .f32⟩
  | .hbm, ⟨24, _⟩ => ⟨S9216, .f32⟩
  | .hbm, ⟨25, _⟩ => ⟨S9216, .f32⟩
  | .hbm, ⟨26, _⟩ => ⟨S9216, .f32⟩
  | .hbm, ⟨27, _⟩ => ⟨S9216x2304, .bf16⟩
  | .hbm, ⟨28, _⟩ => ⟨S12x128x9216, .f32⟩
  | .hbm, ⟨29, _⟩ => ⟨S12x128x1, .f32⟩
  | .hbm, ⟨30, _⟩ => ⟨S12x128x9216, .f32⟩
  | .hbm, ⟨31, _⟩ => ⟨S12x128x9216, .f32⟩
  | .hbm, ⟨32, _⟩ => ⟨S12x128x9216, .f32⟩
  | .hbm, ⟨33, _⟩ => ⟨S_, .f32⟩
  | .hbm, ⟨34, _⟩ => ⟨S9216, .f32⟩
  | .hbm, ⟨35, _⟩ => ⟨S9216, .f32⟩
  | .hbm, ⟨36, _⟩ => ⟨S1x1x9216, .f32⟩
  | .hbm, ⟨37, _⟩ => ⟨S12x128x9216, .f32⟩
  | .hbm, ⟨38, _⟩ => ⟨S12x128x9216, .f32⟩
  | .hbm, ⟨39, _⟩ => ⟨S12x128x9216, .bf16⟩
  | .hbm, ⟨40, _⟩ => ⟨S12x128x2304, .f32⟩
  | .hbm, ⟨41, _⟩ => ⟨S12x128x2304, .bf16⟩
  | .hbm, ⟨42, _⟩ => ⟨S12x128x16, .f32⟩
  | .hbm, ⟨43, _⟩ => ⟨S12x128x16, .bf16⟩
  | .hbm, ⟨44, _⟩ => ⟨S12x128x16, .f32⟩
  | .hbm, ⟨45, _⟩ => ⟨S12x128x16, .bf16⟩
  | .hbm, ⟨46, _⟩ => ⟨S9216, .f32⟩
  | .hbm, ⟨47, _⟩ => ⟨S9216, .f32⟩
  | .hbm, ⟨48, _⟩ => ⟨S9216, .f32⟩
  | .hbm, ⟨49, _⟩ => ⟨S9216x16, .f32⟩
  | .hbm, ⟨50, _⟩ => ⟨S9216x1, .f32⟩
  | .hbm, ⟨51, _⟩ => ⟨S9216x16, .f32⟩
  | .hbm, ⟨52, _⟩ => ⟨S9216x16, .f32⟩
  | .hbm, ⟨53, _⟩ => ⟨S9216x16, .bf16⟩
  | .hbm, ⟨54, _⟩ => ⟨S16x2304, .f32⟩
  | .hbm, ⟨55, _⟩ => ⟨S16x2304, .f32⟩
  | .hbm, ⟨56, _⟩ => ⟨S16x2304, .f32⟩
  | .hbm, ⟨57, _⟩ => ⟨S16x2304, .bf16⟩
  | .hbm, ⟨58, _⟩ => ⟨S9216x16, .f32⟩
  | .hbm, ⟨59, _⟩ => ⟨S9216x1, .f32⟩
  | .hbm, ⟨60, _⟩ => ⟨S9216x16, .f32⟩
  | .hbm, ⟨61, _⟩ => ⟨S9216x16, .f32⟩
  | .hbm, ⟨62, _⟩ => ⟨S9216x16, .f32⟩
  | .hbm, ⟨63, _⟩ => ⟨S9216x16, .f32⟩
  | .hbm, ⟨64, _⟩ => ⟨S9216x16, .bf16⟩
  | .hbm, ⟨65, _⟩ => ⟨S12x128x9216, .bf16⟩
  | .local _ .vmem, ⟨0, _⟩ => ⟨S9216x2304, .fp8e4m3⟩
  | .local _ .vmem, ⟨1, _⟩ => ⟨S12x128x9216, .fp8e5m2⟩
  | .local _ .vmem, ⟨2, _⟩ => ⟨S9216x2304, .f32⟩
  | .local _ .vmem, ⟨3, _⟩ => ⟨S12x128x9216, .f32⟩
  | _, _ => ⟨S12x128x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S9216x2304 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x128x9216 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x128x9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Body.lean ====
/- One grid point of the kernel: what its body leaves in every buffer, as the payloads of the stores. -/
module

public import proofs.«01_k».proof.Proof.Gen.KernelIdeal.Skeleton
public import proofs.«01_k».proof.Proof.Gen.KernelIdeal.Frame
public import Idealize.ShloMosaic.Lib.Pipeline.Value

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! ## Whole-block stores and loads -/

theorem off_zero : (![0, 0] : Fin 2 → ℕ) = fun _ => 0 := by decide

/-- After a store of the whole block, the buffer reads that store's value. -/
theorem read_writes_last_of {S : Shape} {e : EltTy} {κ : Kind} {sp : Space} {off : Fin S.rank → Nat} (h : off = fun _ => 0)
    (v : View sig κ sp S e) (f : v.ty.Contents (Elt F)) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ fun y => ⟨_, List.mem_cons_self, View.mem_set_unit_zero h inb y⟩,
    View.canon_cons_unit_zero h]

/-- A load of the whole block after such a store reads that store's value. -/
theorem readCov_last_of {S : Shape} {e : EltTy} {κ : Kind} {sp : Space} {off : Fin S.rank → Nat} (h : off = fun _ => 0)
    (v : View sig κ sp S e) (inb inb' : ∀ a, off a + S.size a ≤ S.size a) (w : S.Idx → Elt F e)
    (L : List (View.Piece (Elt F) S e)) :
    v.readCov ((⟨Rect.unit off S.size inb, w⟩ : View.Piece (Elt F) S e) :: L) (Rect.unit off S.size inb').toLoadRect = w := by
  rw [View.readCov_eq_canon_ld _ _ _ fun y => ⟨_, List.mem_cons_self, View.mem_set_unit_zero h inb y⟩,
    View.canon_cons_unit_zero h, View.ld_unit_zero h]

/-- The same at the two-axis shapes of this kernel, with the offsets and sizes as its stores spell them. -/
theorem read_writes_last {e : EltTy} {κ : Kind} {sp : Space} {a b : ℕ} (v : View sig κ sp ⟨2, ![a, b]⟩ e)
    (f : v.ty.Contents (Elt F)) (inb : ∀ x, (![0, 0] : Fin 2 → ℕ) x + (![a, b] : Fin 2 → ℕ) x ≤ (![a, b] : Fin 2 → ℕ) x)
    (w : (⟨2, ![a, b]⟩ : Shape).Idx → Elt F e) (L : List (View.Piece (Elt F) ⟨2, ![a, b]⟩ e)) :
    v.read (Elt F) (v.writes (Elt F) f
      ((⟨Rect.unit (s := ⟨2, ![a, b]⟩) ![0, 0] ![a, b] inb, w⟩ : View.Piece (Elt F) ⟨2, ![a, b]⟩ e) :: L)) = w :=
  read_writes_last_of (S := ⟨2, ![a, b]⟩) off_zero v f inb w L

theorem readCov_last {e : EltTy} {κ : Kind} {sp : Space} {a b : ℕ} (v : View sig κ sp ⟨2, ![a, b]⟩ e)
    (inb inb' : ∀ x, (![0, 0] : Fin 2 → ℕ) x + (![a, b] : Fin 2 → ℕ) x ≤ (![a, b] : Fin 2 → ℕ) x)
    (w : (⟨2, ![a, b]⟩ : Shape).Idx → Elt F e) (L : List (View.Piece (Elt F) ⟨2, ![a, b]⟩ e)) :
    v.readCov ((⟨Rect.unit (s := ⟨2, ![a, b]⟩) ![0, 0] ![a, b] inb, w⟩ : View.Piece (Elt F) ⟨2, ![a, b]⟩ e) :: L)
      (Rect.unit (s := ⟨2, ![a, b]⟩) ![0, 0] ![a, b] inb').toLoadRect = w :=
  readCov_last_of (S := ⟨2, ![a, b]⟩) off_zero v inb inb' w L

/-- A load of the whole block reads the block. -/
theorem ld_whole {e : EltTy} {a b : ℕ} (X : (⟨2, ![a, b]⟩ : Shape).Idx → Elt F e)
    (inb : ∀ x, (![0, 0] : Fin 2 → ℕ) x + (![a, b] : Fin 2 → ℕ) x ≤ (![a, b] : Fin 2 → ℕ) x) :
    View.ld X (Rect.unit (s := ⟨2, ![a, b]⟩) ![0, 0] ![a, b] inb) = X :=
  View.ld_unit_zero (S := ⟨2, ![a, b]⟩) off_zero inb X

/-! ## The branch conditions -/

/-- The condition of the first branch: the point is the first one. -/
abbrev cond0_0 (i : grid0.Coords) : Prop := k0_cond1 i = 1#1

/-- The condition of the second branch: the point is the last one. -/
abbrev cond0_1 (i : grid0.Coords) : Prop := k0_cond2 i = 1#1

/-! ## What one point computes, from the blocks it is given

`x0` is x, `x1` the weight codes, `x2` the weight scales, `x3` the lora matrix a, `x4` and `x5` the lora matrix b and its transpose, `x6` the magnitudes, `x7` the codes of the incoming gradient, `x8` its scales. -/

/-- The scaled gradient g = dy * (mag / n). -/
def gVal (x1 : Vec F S512x2304 .fp8e4m3) (x2 : Vec F S512x1 .f32) (x3 : Vec F S16x2304 .bf16) (x4 : Vec F S512x16 .bf16) (x6 : Vec F S1x512 .f32) (x7 : Vec F S1536x512 .fp8e5m2) (x8 : Vec F S1536x1 .f32) : FVec F S1536x512 .bf16 :=
  k0_pay21 (k0_pay15 x1 x2 x4 x3 x6) x7 x8

/-- The factor k = mag * dm / n². -/
def kVal (x0 : Vec F S1536x2304 .bf16) (x1 : Vec F S512x2304 .fp8e4m3) (x2 : Vec F S512x1 .f32) (x3 : Vec F S16x2304 .bf16) (x4 : Vec F S512x16 .bf16) (x6 : Vec F S1x512 .f32) (x7 : Vec F S1536x512 .fp8e5m2) (x8 : Vec F S1536x1 .f32) : FVec F S1x512 .f32 :=
  k0_pay22 (k0_pay12 x1 x2 x4 x3) (k0_pay14 x6) (k0_pay16 x0) (k0_pay13 x1 x2 x4 x3) x7 x8

/-- The accumulator of dx after the point, from what it held before. -/
def accStep (x1 : Vec F S512x2304 .fp8e4m3) (x2 : Vec F S512x1 .f32) (x3 : Vec F S16x2304 .bf16) (x4 : Vec F S512x16 .bf16) (x6 : Vec F S1x512 .f32) (x7 : Vec F S1536x512 .fp8e5m2) (x8 : Vec F S1536x1 .f32) (s : Vec F S1536x2304 .f32) : FVec F S1536x2304 .f32 :=
  k0_pay24 (k0_pay15 x1 x2 x4 x3 x6) x7 x8 s (k0_pay13 x1 x2 x4 x3)

/-- The accumulator of the correction to dla after the point. -/
def dlaStep (x0 : Vec F S1536x2304 .bf16) (x1 : Vec F S512x2304 .fp8e4m3) (x2 : Vec F S512x1 .f32) (x3 : Vec F S16x2304 .bf16) (x4 : Vec F S512x16 .bf16) (x5 : Vec F S16x512 .bf16) (x6 : Vec F S1x512 .f32) (x7 : Vec F S1536x512 .fp8e5m2) (x8 : Vec F S1536x1 .f32) (s : Vec F S16x2304 .f32) : FVec F S16x2304 .f32 :=
  k0_pay2 (k0_pay23 (k0_pay12 x1 x2 x4 x3) (k0_pay14 x6) (k0_pay16 x0) (k0_pay13 x1 x2 x4 x3) x7 x8 x5) s (k0_pay13 x1 x2 x4 x3)

/-- The accumulator of gb after the point. -/
def gbStep (x1 : Vec F S512x2304 .fp8e4m3) (x2 : Vec F S512x1 .f32) (x3 : Vec F S16x2304 .bf16) (x4 : Vec F S512x16 .bf16) (x6 : Vec F S1x512 .f32) (x7 : Vec F S1536x512 .fp8e5m2) (x8 : Vec F S1536x1 .f32) (s : Vec F S1536x16 .f32) : FVec F S1536x16 .f32 :=
  k0_pay1 (gVal x1 x2 x3 x4 x6 x7 x8) s x4

/-- The block of dlb (transposed) the point writes; `xa` is x·laᵀ. -/
def dlbVal (x0 : Vec F S1536x2304 .bf16) (x1 : Vec F S512x2304 .fp8e4m3) (x2 : Vec F S512x1 .f32) (x3 : Vec F S16x2304 .bf16) (x4 : Vec F S512x16 .bf16) (x6 : Vec F S1x512 .f32) (x7 : Vec F S1536x512 .fp8e5m2) (x8 : Vec F S1536x1 .f32) (xa : Vec F S1536x16 .bf16) : FVec F S16x512 .bf16 :=
  k0_pay3 (gVal x1 x2 x3 x4 x6 x7 x8) (kVal x0 x1 x2 x3 x4 x6 x7 x8) x3 (k0_pay13 x1 x2 x4 x3) xa

/-- The block of dm the point writes. -/
def dmVal (x0 : Vec F S1536x2304 .bf16) (x1 : Vec F S512x2304 .fp8e4m3) (x2 : Vec F S512x1 .f32) (x3 : Vec F S16x2304 .bf16) (x4 : Vec F S512x16 .bf16) (x7 : Vec F S1536x512 .fp8e5m2) (x8 : Vec F S1536x1 .f32) : FVec F S1x512 .f32 :=
  k0_pay20 (k0_pay12 x1 x2 x4 x3) (k0_pay16 x0) (k0_pay13 x1 x2 x4 x3) x7 x8

/-- The block of z the point writes. -/
def zVal (x0 : Vec F S1536x2304 .bf16) (x1 : Vec F S512x2304 .fp8e4m3) (x2 : Vec F S512x1 .f32) (x3 : Vec F S16x2304 .bf16) (x4 : Vec F S512x16 .bf16) : FVec F S1536x512 .bf16 :=
  k0_pay18 (k0_pay16 x0) (k0_pay13 x1 x2 x4 x3)

/-! ## The body's triple -/

set_option maxHeartbeats 4000000 in
/-- The body at any grid point, on whole staging buffers of any contents: it runs, and leaves in each buffer the values
    above; the three accumulators start from zero where the first branch is taken, and the three
    results it writes at the end only change where the second is. -/
theorem body_run (c : Dev nD) (i : grid0.Coords) (arg1 : Memref sig .tc .vmem S1536x2304 .bf16) (harg1 : arg1.IsWhole) (arg2 : Memref sig .tc .vmem S512x2304 .fp8e4m3) (harg2 : arg2.IsWhole) (arg3 : Memref sig .tc .vmem S512x1 .f32) (harg3 : arg3.IsWhole) (arg4 : Memref sig .tc .vmem S16x2304 .bf16) (harg4 : arg4.IsWhole) (arg5 : Memref sig .tc .vmem S512x16 .bf16) (harg5 : arg5.IsWhole) (arg6 : Memref sig .tc .vmem S16x512 .bf16) (harg6 : arg6.IsWhole) (arg7 : Memref sig .tc .vmem S1x512 .f32) (harg7 : arg7.IsWhole) (arg8 : Memref sig .tc .vmem S1536x512 .fp8e5m2) (harg8 : arg8.IsWhole) (arg9 : Memref sig .tc .vmem S1536x1 .f32) (harg9 : arg9.IsWhole) (arg10 : Memref sig .tc .vmem S1536x2304 .bf16) (harg10 : arg10.IsWhole) (arg11 : Memref sig .tc .vmem S16x2304 .bf16) (harg11 : arg11.IsWhole) (arg12 : Memref sig .tc .vmem S16x512 .bf16) (harg12 : arg12.IsWhole) (arg13 : Memref sig .tc .vmem S1x512 .f32) (harg13 : arg13.IsWhole) (arg14 : Memref sig .tc .vmem S1536x512 .bf16) (harg14 : arg14.IsWhole) (arg15 : Memref sig .tc .vmem S1536x16 .bf16) (harg15 : arg15.IsWhole) (arg16 : Memref sig .tc .vmem S1536x16 .bf16) (harg16 : arg16.IsWhole) (arg17 : Memref sig .tc .vmem S512x2304 .bf16) (harg17 : arg17.IsWhole) (arg18 : Memref sig .tc .vmem S1536x2304 .f32) (harg18 : arg18.IsWhole) (arg19 : Memref sig .tc .vmem S16x2304 .f32) (harg19 : arg19.IsWhole) (arg20 : Memref sig .tc .vmem S1536x16 .f32) (harg20 : arg20.IsWhole)
    (x0 : Vec F S1536x2304 .bf16) (x1 : Vec F S512x2304 .fp8e4m3) (x2 : Vec F S512x1 .f32) (x3 : Vec F S16x2304 .bf16) (x4 : Vec F S512x16 .bf16) (x5 : Vec F S16x512 .bf16) (x6 : Vec F S1x512 .f32) (x7 : Vec F S1536x512 .fp8e5m2) (x8 : Vec F S1536x1 .f32) (y9 : Vec F S1536x2304 .bf16) (y10 : Vec F S16x2304 .bf16) (y11 : Vec F S16x512 .bf16) (y12 : Vec F S1x512 .f32) (y13 : Vec F S1536x512 .bf16) (y14 : Vec F S1536x16 .bf16) (y15 : Vec F S1536x16 .bf16) (s0 : Vec F S512x2304 .bf16) (s1 : Vec F S1536x2304 .f32) (s2 : Vec F S16x2304 .f32) (s3 : Vec F S1536x16 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare y11 ∗ owns (c : Thread nD τ) arg13 fullShare y12 ∗ owns (c : Thread nD τ) arg14 fullShare y13 ∗ owns (c : Thread nD τ) arg15 fullShare y14 ∗ owns (c : Thread nD τ) arg16 fullShare y15 ∗ owns (c : Thread nD τ) arg17 fullShare s0 ∗ owns (c : Thread nD τ) arg18 fullShare s1 ∗ owns (c : Thread nD τ) arg19 fullShare s2 ∗ owns (c : Thread nD τ) arg20 fullShare s3
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare (if cond0_1 i then k0_pay4 (accStep x1 x2 x3 x4 x6 x7 x8 (if cond0_0 i then k0_pay8 else s1)) else y9)
        ∗ owns (c : Thread nD τ) arg11 fullShare (if cond0_1 i then k0_pay6 (gbStep x1 x2 x3 x4 x6 x7 x8 (if cond0_0 i then k0_pay10 else s3)) x0 (dlaStep x0 x1 x2 x3 x4 x5 x6 x7 x8 (if cond0_0 i then k0_pay9 else s2)) else y10)
        ∗ owns (c : Thread nD τ) arg12 fullShare (dlbVal x0 x1 x2 x3 x4 x6 x7 x8 (if cond0_0 i then k0_pay7 x0 x3 else y14))
        ∗ owns (c : Thread nD τ) arg13 fullShare (dmVal x0 x1 x2 x3 x4 x7 x8)
        ∗ owns (c : Thread nD τ) arg14 fullShare (zVal x0 x1 x2 x3 x4)
        ∗ owns (c : Thread nD τ) arg15 fullShare (if cond0_0 i then k0_pay7 x0 x3 else y14)
        ∗ owns (c : Thread nD τ) arg16 fullShare (if cond0_1 i then k0_pay5 (gbStep x1 x2 x3 x4 x6 x7 x8 (if cond0_0 i then k0_pay10 else s3)) else y15)
        ∗ owns (c : Thread nD τ) arg17 fullShare (k0_pay13 x1 x2 x4 x3)
        ∗ owns (c : Thread nD τ) arg18 fullShare (accStep x1 x2 x3 x4 x6 x7 x8 (if cond0_0 i then k0_pay8 else s1))
        ∗ owns (c : Thread nD τ) arg19 fullShare (dlaStep x0 x1 x2 x3 x4 x5 x6 x7 x8 (if cond0_0 i then k0_pay9 else s2))
        ∗ owns (c : Thread nD τ) arg20 fullShare (gbStep x1 x2 x3 x4 x6 x7 x8 (if cond0_0 i then k0_pay10 else s3))) -∗ K ⟨⟩))
    ⊢ wp frame (wpE (defs₀ (F := F)) Variants.none c none) E (cc0_dora_backward i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_dora_backward_eq_skeleton]; unfold cc0_dora_backward_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
  clear hf0 hf1 hf2 hf3 hf4 hf5 hf6 hf7 hf8 hf9 hf10 hf11 hf12 hf13 hf14 hf15 hf16 hf17 hf18 hf19
  by_cases hc0 : cond0_0 i <;> by_cases hc1 : cond0_1 i
  all_goals
    sl_exec (disch := first | sl_exact hc0 | sl_exact hc1)
    sl_step
    iapply Hk
    isplitl [H0]
    · iexists _; isplitr; swap; · iexact H0
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H1]
    · iexists _; isplitr; swap; · iexact H1
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H2]
    · iexists _; isplitr; swap; · iexact H2
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H3]
    · iexists _; isplitr; swap; · iexact H3
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H4]
    · iexists _; isplitr; swap; · iexact H4
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H5]
    · iexists _; isplitr; swap; · iexact H5
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H6]
    · iexists _; isplitr; swap; · iexact H6
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H7]
    · iexists _; isplitr; swap; · iexact H7
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H8]
    · iexists _; isplitr; swap; · iexact H8
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H9]
    · iexists _; isplitr; swap; · iexact H9
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H10]
    · iexists _; isplitr; swap; · iexact H10
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H11]
    · iexists _; isplitr; swap; · iexact H11
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H12]
    · iexists _; isplitr; swap; · iexact H12
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H13]
    · iexists _; isplitr; swap; · iexact H13
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H14]
    · iexists _; isplitr; swap; · iexact H14
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H15]
    · iexists _; isplitr; swap; · iexact H15
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H16]
    · iexists _; isplitr; swap; · iexact H16
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H17]
    · iexists _; isplitr; swap; · iexact H17
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    isplitl [H18]
    · iexists _; isplitr; swap; · iexact H18
      ipureintro
      (try sl_unfold_words); (try simp only [Memref.IsWhole.read_unread, read_writes_last, readCov_last, View.readAt_eq_ld, ld_whole, accStep, dlaStep, gbStep, dlbVal, dmVal, zVal, gVal, kVal]); (try (split_ifs <;> first | rfl | contradiction))
    iexists _; isplitr; swap; · iexact H19
    ipureintro
    (try sl_unfold_words); (try simp only [Memref.IsWhole.read_unread, read_writes_last, readCov_last, View.readAt_eq_ld, ld_whole, accStep, dlaStep, gbStep, dlbVal, dmVal, zVal, gVal, kVal]); (try (split_ifs <;> first | rfl | contradiction))

end Cert.KernelIdeal.Hand

end
-- ==== Proof.Run.lean ====
/- The run of the kernel: what every buffer holds at every grid point, the body's obligation to the pipeline, and the
   final states of the whole program in terms of it. -/
module

public import proofs.«01_k».proof.Proof.Body
public import Idealize.ShloMosaic.Lib.Pipeline.TableIdle
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The branch conditions and the idle windows, point by point -/

/-- The first branch is taken at the first point only. -/
theorem cond0_iff : ∀ t : Fin cfg0.N, cond0_0 (grid0.coords t) ↔ t.val = 0 :=
  (fun t => by
    have ht : t.val < 18 := Nat.lt_of_lt_of_eq t.isLt N_0
    have e0 : (grid0.coords t 0).val = t.val / 1 % 18 := Pipeline.Grid.coords_val t 0 (by decide) rfl
    have e1 : t.val = 0 ↔ t.val % 18 = 0 := by omega
    rw [e1]
    simp only [cond0_0, k0_cond1, e0]
    word_cmp
   : ∀ t : Fin grid0.N, cond0_0 (grid0.coords t) ↔ t.val = 0)

/-- The second branch is taken at the last point only. -/
theorem cond1_iff : ∀ t : Fin cfg0.N, cond0_1 (grid0.coords t) ↔ t.val = 17 :=
  (fun t => by
    have ht : t.val < 18 := Nat.lt_of_lt_of_eq t.isLt N_0
    have e0 : (grid0.coords t 0).val = t.val / 1 % 18 := Pipeline.Grid.coords_val t 0 (by decide) rfl
    have e1 : t.val = 17 ↔ t.val % 18 = 17 := by omega
    rw [e1]
    simp only [cond0_1, k0_cond2, e0]
    word_cmp
   : ∀ t : Fin grid0.N, cond0_1 (grid0.coords t) ↔ t.val = 17)

/-- The outputs written at the end are idle at every other point and live at the last. -/
theorem live_last : ∀ t : Fin cfg0.N, t.val = 17 →
    cfg0.idle 9 (grid0.coords t) = false ∧ cfg0.idle 10 (grid0.coords t) = false ∧ cfg0.idle 15 (grid0.coords t) = false := by
  decide +kernel
theorem idle_last : ∀ t : Fin cfg0.N, t.val ≠ 17 →
    cfg0.idle 9 (grid0.coords t) = true ∧ cfg0.idle 10 (grid0.coords t) = true ∧ cfg0.idle 15 (grid0.coords t) = true := by
  decide +kernel
/-- The output x·laᵀ is live at the first point only. -/
theorem live_first : ∀ t : Fin cfg0.N, t.val = 0 → cfg0.idle 14 (grid0.coords t) = false := by decide +kernel
/-- And its buffer holds what that point left at every later one. -/
theorem fresh_first : ∀ t : Fin cfg0.N, t.val ≠ 0 → cfg0.fresh 14 t.val = false := by decide +kernel

/-! ## The staging and scratch buffers -/

abbrev ms0 (t : Fin cfg0.N) : Memref sig .tc .vmem S1536x2304 .bf16 := win0_0.stage (cfg0.slots t 0)
abbrev ms1 (t : Fin cfg0.N) : Memref sig .tc .vmem S512x2304 .fp8e4m3 := win0_1.stage (cfg0.slots t 1)
abbrev ms2 (t : Fin cfg0.N) : Memref sig .tc .vmem S512x1 .f32 := win0_2.stage (cfg0.slots t 2)
abbrev ms3 (t : Fin cfg0.N) : Memref sig .tc .vmem S16x2304 .bf16 := win0_3.stage (cfg0.slots t 3)
abbrev ms4 (t : Fin cfg0.N) : Memref sig .tc .vmem S512x16 .bf16 := win0_4.stage (cfg0.slots t 4)
abbrev ms5 (t : Fin cfg0.N) : Memref sig .tc .vmem S16x512 .bf16 := win0_5.stage (cfg0.slots t 5)
abbrev ms6 (t : Fin cfg0.N) : Memref sig .tc .vmem S1x512 .f32 := win0_6.stage (cfg0.slots t 6)
abbrev ms7 (t : Fin cfg0.N) : Memref sig .tc .vmem S1536x512 .fp8e5m2 := win0_7.stage (cfg0.slots t 7)
abbrev ms8 (t : Fin cfg0.N) : Memref sig .tc .vmem S1536x1 .f32 := win0_8.stage (cfg0.slots t 8)
abbrev ms9 (t : Fin cfg0.N) : Memref sig .tc .vmem S1536x2304 .bf16 := win0_9.stage (cfg0.slots t 9)
abbrev ms10 (t : Fin cfg0.N) : Memref sig .tc .vmem S16x2304 .bf16 := win0_10.stage (cfg0.slots t 10)
abbrev ms11 (t : Fin cfg0.N) : Memref sig .tc .vmem S16x512 .bf16 := win0_11.stage (cfg0.slots t 11)
abbrev ms12 (t : Fin cfg0.N) : Memref sig .tc .vmem S1x512 .f32 := win0_12.stage (cfg0.slots t 12)
abbrev ms13 (t : Fin cfg0.N) : Memref sig .tc .vmem S1536x512 .bf16 := win0_13.stage (cfg0.slots t 13)
abbrev ms14 (t : Fin cfg0.N) : Memref sig .tc .vmem S1536x16 .bf16 := win0_14.stage (cfg0.slots t 14)
abbrev ms15 (t : Fin cfg0.N) : Memref sig .tc .vmem S1536x16 .bf16 := win0_15.stage (cfg0.slots t 15)
abbrev sc0 : Memref sig .tc .vmem S512x2304 .bf16 := Memref.whole cc0_scratch0
abbrev sc1 : Memref sig .tc .vmem S1536x2304 .f32 := Memref.whole cc0_scratch1
abbrev sc2 : Memref sig .tc .vmem S16x2304 .f32 := Memref.whole cc0_scratch2
abbrev sc3 : Memref sig .tc .vmem S1536x16 .f32 := Memref.whole cc0_scratch3

theorem ΦA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## The accumulators, point after point -/

/-- The grid point of a number (taken modulo the number of points). -/
def pt (n : ℕ) : Fin cfg0.N := ⟨n % 18, lt_of_lt_of_eq (Nat.mod_lt n (by decide)) N_0.symm⟩

theorem pt_val (t : Fin cfg0.N) : pt t.val = t :=
  Fin.ext (Nat.mod_eq_of_lt (lt_of_lt_of_eq t.isLt N_0))

/-- One point's step of the accumulator of dx, -/
def accAt (c : Dev nD) (t : Fin cfg0.N) (s : Vec F S1536x2304 .f32) : FVec F S1536x2304 .f32 :=
  accStep (iblk m c 1 t) (iblk m c 2 t) (iblk m c 3 t) (iblk m c 4 t) (iblk m c 6 t) (iblk m c 7 t) (iblk m c 8 t) s
/-- of the accumulator of the correction to dla, -/
def dlaAt (c : Dev nD) (t : Fin cfg0.N) (s : Vec F S16x2304 .f32) : FVec F S16x2304 .f32 :=
  dlaStep (iblk m c 0 t) (iblk m c 1 t) (iblk m c 2 t) (iblk m c 3 t) (iblk m c 4 t) (iblk m c 5 t) (iblk m c 6 t) (iblk m c 7 t) (iblk m c 8 t) s
/-- and of the accumulator of gb. -/
def gbAt (c : Dev nD) (t : Fin cfg0.N) (s : Vec F S1536x16 .f32) : FVec F S1536x16 .f32 :=
  gbStep (iblk m c 1 t) (iblk m c 2 t) (iblk m c 3 t) (iblk m c 4 t) (iblk m c 6 t) (iblk m c 7 t) (iblk m c 8 t) s

/-- What each accumulator holds after the point `n`: zero, then one step per point. -/
def accA (c : Dev nD) : ℕ → FVec F S1536x2304 .f32
  | 0 => accAt m c (pt 0) k0_pay8
  | n + 1 => accAt m c (pt (n + 1)) (accA c n)
def dlaA (c : Dev nD) : ℕ → FVec F S16x2304 .f32
  | 0 => dlaAt m c (pt 0) k0_pay9
  | n + 1 => dlaAt m c (pt (n + 1)) (dlaA c n)
def gbA (c : Dev nD) : ℕ → FVec F S1536x16 .f32
  | 0 => gbAt m c (pt 0) k0_pay10
  | n + 1 => gbAt m c (pt (n + 1)) (gbA c n)

/-- A step chain that starts over at point 0 is the step applied to what the point before left. -/
theorem chain_step {α : Type} (A : ℕ → α) (step : Fin cfg0.N → α → α) (z : α) (h0 : A 0 = step (pt 0) z)
    (hs : ∀ n, A (n + 1) = step (pt (n + 1)) (A n)) (t : Fin cfg0.N) (d : α) (hd : t.val ≠ 0 → d = A (t.val - 1)) :
    step t (if cond0_0 (grid0.coords t) then z else d) = A t.val := by
  by_cases h : t.val = 0
  · rw [if_pos ((cond0_iff t).mpr h), h, h0, ← h, pt_val]
  · rw [if_neg fun hc => h ((cond0_iff t).mp hc), hd h]
    obtain ⟨n, hn⟩ := Nat.exists_eq_succ_of_ne_zero h
    rw [show A t.val = A (n + 1) from congrArg A hn, hs, show pt (n + 1) = t from by rw [← pt_val t, hn], hn]; rfl

/-- x·laᵀ as the first point leaves it. -/
def xaV (c : Dev nD) : FVec F S1536x16 .bf16 := k0_pay7 (iblk m c 0 (pt 0)) (iblk m c 3 (pt 0))

/-! ## The pipeline's proof data -/

/-- The invariant before point `n`: the scratch buffers, the accumulators at what the point before left. -/
def PhiS (c : Dev nD) (n : ℕ) : sProp 𝕄 :=
  iprop(iprop((∃ d, owns (c : Thread nD τ) sc0 fullShare d)
    ∗ (∃ d, ⌜n ≠ 0 → d = accA m c (n - 1)⌝ ∗ owns (c : Thread nD τ) sc1 fullShare d)
    ∗ (∃ d, ⌜n ≠ 0 → d = dlaA m c (n - 1)⌝ ∗ owns (c : Thread nD τ) sc2 fullShare d)
    ∗ (∃ d, ⌜n ≠ 0 → d = gbA m c (n - 1)⌝ ∗ owns (c : Thread nD τ) sc3 fullShare d)) ∗ (∃ r, prngReg c r))

/-- What every staging buffer holds after the body at every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => k0_pay4 (accA m c t.val)
    | ⟨10, _⟩ => k0_pay6 (gbA m c t.val) (iblk m c 0 t) (dlaA m c t.val)
    | ⟨11, _⟩ => dlbVal (iblk m c 0 t) (iblk m c 1 t) (iblk m c 2 t) (iblk m c 3 t) (iblk m c 4 t) (iblk m c 6 t) (iblk m c 7 t) (iblk m c 8 t) (xaV m c)
    | ⟨12, _⟩ => dmVal (iblk m c 0 t) (iblk m c 1 t) (iblk m c 2 t) (iblk m c 3 t) (iblk m c 4 t) (iblk m c 7 t) (iblk m c 8 t)
    | ⟨13, _⟩ => zVal (iblk m c 0 t) (iblk m c 1 t) (iblk m c 2 t) (iblk m c 3 t) (iblk m c 4 t)
    | ⟨14, _⟩ => xaV m c
    | ⟨15, _⟩ => k0_pay5 (gbA m c t.val)
    | ⟨_ + 16, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = k0_pay4 (accA m c t.val) := by dsimp only [dats]
theorem after_10 (c : Dev nD) (t : Fin cfg0.N) : (dats m 0 c).after 10 t = k0_pay6 (gbA m c t.val) (iblk m c 0 t) (dlaA m c t.val) := by dsimp only [dats]
theorem after_11 (c : Dev nD) (t : Fin cfg0.N) : (dats m 0 c).after 11 t = dlbVal (iblk m c 0 t) (iblk m c 1 t) (iblk m c 2 t) (iblk m c 3 t) (iblk m c 4 t) (iblk m c 6 t) (iblk m c 7 t) (iblk m c 8 t) (xaV m c) := by dsimp only [dats]
theorem after_12 (c : Dev nD) (t : Fin cfg0.N) : (dats m 0 c).after 12 t = dmVal (iblk m c 0 t) (iblk m c 1 t) (iblk m c 2 t) (iblk m c 3 t) (iblk m c 4 t) (iblk m c 7 t) (iblk m c 8 t) := by dsimp only [dats]
theorem after_13 (c : Dev nD) (t : Fin cfg0.N) : (dats m 0 c).after 13 t = zVal (iblk m c 0 t) (iblk m c 1 t) (iblk m c 2 t) (iblk m c 3 t) (iblk m c 4 t) := by dsimp only [dats]
theorem after_14 (c : Dev nD) (t : Fin cfg0.N) : (dats m 0 c).after 14 t = xaV m c := by dsimp only [dats]
theorem after_15 (c : Dev nD) (t : Fin cfg0.N) : (dats m 0 c).after 15 t = k0_pay5 (gbA m c t.val) := by dsimp only [dats]

/-- Every input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- After the first point the buffer of x·laᵀ holds it. -/
theorem before_14 (c : Dev nD) (t : Fin cfg0.N) (ht : t.val ≠ 0) (d) : (dats m 0 c).before 14 t d = xaV m c := by
  rw [Dat.before_out_traj (dats m 0 c) 14 rfl (fun _ _ => rfl) (fun u hu _ _ => by rw [after_14, after_14]) t.val t rfl d,
    fresh_first t ht, after_14]
  exact if_neg Bool.false_ne_true

/-- A buffer at a value `X` is what the pipeline asks of the body at window `w`: `X` is the stated value where the
    window is live or written back, and what the body found where it is idle. -/
theorem leaves_of (c : Dev nD) (t : Fin cfg0.N) (w : Fin cfg0.W) (X : (cfg0.win w).block.Idx → Elt F (cfg0.win w).elt)
    (ha : (cfg0.idle w (grid0.coords t) = true → (cfg0.win w).flush t = true) → X = (dats m 0 c).after w t)
    (hb : cfg0.idle w (grid0.coords t) = true → ∃ d, X = (dats m 0 c).before w t d) :
    (owns (c : Thread nD τ) ((cfg0.win w).stage (cfg0.slots t w)) fullShare X : sProp 𝕄) ⊢ (dats m 0 c).leavesExact w t := by
  unfold Dat.leavesExact
  change _ ⊢ (match cfg0.idle w (grid0.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t))
  cases hi : cfg0.idle w (grid0.coords t) with
  | false => rw [ha fun h => absurd (hi.symm.trans h) Bool.false_ne_true]
  | true =>
    cases hf : (cfg0.win w).flush t with
    | false =>
      obtain ⟨d, rfl⟩ := hb hi
      iintro H; iexists d; iexact H
    | true => rw [ha fun _ => hf]

/-- The same at an output written at the last point only. -/
theorem leaves_last (c : Dev nD) (t : Fin cfg0.N) (w : Fin cfg0.W) (Y d : (cfg0.win w).block.Idx → Elt F (cfg0.win w).elt)
    (hl : t.val = 17 → cfg0.idle w (grid0.coords t) = false) (hi : t.val ≠ 17 → cfg0.idle w (grid0.coords t) = true)
    (hf : (cfg0.win w).flush t = true → t.val = 17) (hY : t.val = 17 → Y = (dats m 0 c).after w t) :
    (owns (c : Thread nD τ) ((cfg0.win w).stage (cfg0.slots t w)) fullShare
      (if cond0_1 (grid0.coords t) then Y else (dats m 0 c).before w t d) : sProp 𝕄) ⊢ (dats m 0 c).leavesExact w t := by
  by_cases h : t.val = 17
  · rw [if_pos ((cond1_iff t).mpr h)]
    exact leaves_of m c t w _ (fun _ => hY h) fun h' => absurd ((hl h).symm.trans h') Bool.false_ne_true
  · rw [if_neg fun hc => h ((cond1_iff t).mp hc)]
    exact leaves_of m c t w _ (fun h' => absurd (hf (h' (hi h))) h) fun _ => ⟨d, rfl⟩

/-- At an input, or an output stored at every point. -/
theorem leaves_live (c : Dev nD) (t : Fin cfg0.N) (w : Fin cfg0.W) (X : (cfg0.win w).block.Idx → Elt F (cfg0.win w).elt)
    (hl : cfg0.idle w (grid0.coords t) = false) (hX : X = (dats m 0 c).after w t) :
    (owns (c : Thread nD τ) ((cfg0.win w).stage (cfg0.slots t w)) fullShare X : sProp 𝕄) ⊢ (dats m 0 c).leavesExact w t :=
  leaves_of m c t w X (fun _ => hX) fun h => absurd (hl.symm.trans h) Bool.false_ne_true

/-- x·laᵀ as the body finds it after the first branch. -/
theorem xa_eq (c : Dev nD) (t : Fin cfg0.N) (d : (cfg0.win 14).block.Idx → Elt F (cfg0.win 14).elt) :
    (if cond0_0 (grid0.coords t) then k0_pay7 (iblk m c 0 t) (iblk m c 3 t) else (dats m 0 c).before 14 t d) = xaV m c := by
  by_cases h : t.val = 0
  · rw [if_pos ((cond0_iff t).mpr h), xaV, show pt 0 = t from by rw [← pt_val t, h]]
  · rw [if_neg fun hc => h ((cond0_iff t).mp hc), before_14 m c t h]

theorem leaves_14 (c : Dev nD) (t : Fin cfg0.N) (d : (cfg0.win 14).block.Idx → Elt F (cfg0.win 14).elt) :
    (owns (c : Thread nD τ) ((cfg0.win 14).stage (cfg0.slots t 14)) fullShare (xaV m c) : sProp 𝕄) ⊢ (dats m 0 c).leavesExact 14 t :=
  leaves_of m c t 14 _ (fun _ => (after_14 m c t).symm) fun h => ⟨d, by
    by_cases h0 : t.val = 0
    · exact absurd ((live_first t h0).symm.trans h) Bool.false_ne_true
    · exact (before_14 m c t h0 d).symm⟩

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 4000000 in
/-- The body at any point turns what the pipeline hands it into what the pipeline asks back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    show (dats m 0 c).Φ t.succ = PhiS m c (t.val + 1) from rfl, show (dats m 0 c).Φ t.castSucc = PhiS m c t.val from rfl]
  unfold PhiS
  iintro ⟨⟨⟨⟨%s0, HS0⟩, ⟨%s1, %e1, HS1⟩, ⟨%s2, %e2, HS2⟩, ⟨%s3, %e3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (body_run c (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) ((dats m 0 c).before 9 t d9) ((dats m 0 c).before 10 t d10) ((dats m 0 c).before 11 t d11) ((dats m 0 c).before 12 t d12) ((dats m 0 c).before 13 t d13) ((dats m 0 c).before 14 t d14) ((dats m 0 c).before 15 t d15) s0 s1 s2 s3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  have hacc : accStep (iblk m c 1 t) (iblk m c 2 t) (iblk m c 3 t) (iblk m c 4 t) (iblk m c 6 t) (iblk m c 7 t) (iblk m c 8 t) (if cond0_0 (grid0.coords t) then k0_pay8 else s1) = accA m c t.val :=
    chain_step (accA m c) (accAt m c) k0_pay8 rfl (fun _ => rfl) t s1 e1
  have hdla : dlaStep (iblk m c 0 t) (iblk m c 1 t) (iblk m c 2 t) (iblk m c 3 t) (iblk m c 4 t) (iblk m c 5 t) (iblk m c 6 t) (iblk m c 7 t) (iblk m c 8 t) (if cond0_0 (grid0.coords t) then k0_pay9 else s2) = dlaA m c t.val :=
    chain_step (dlaA m c) (dlaAt m c) k0_pay9 rfl (fun _ => rfl) t s2 e2
  have hgb : gbStep (iblk m c 1 t) (iblk m c 2 t) (iblk m c 3 t) (iblk m c 4 t) (iblk m c 6 t) (iblk m c 7 t) (iblk m c 8 t) (if cond0_0 (grid0.coords t) then k0_pay10 else s3) = gbA m c t.val :=
    chain_step (gbA m c) (gbAt m c) k0_pay10 rfl (fun _ => rfl) t s3 e3
  rw [hacc, hdla, hgb, xa_eq m c t d14]
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]
      · iexists _; iexact HS0
      isplitl [HS1]
      · iexists _; isplitr; swap; · iexact HS1
        ipureintro; exact fun _ => rfl
      isplitl [HS2]
      · iexists _; isplitr; swap; · iexact HS2
        ipureintro; exact fun _ => rfl
      iexists _; isplitr; swap; · iexact HS3
      ipureintro; exact fun _ => rfl
    iexact Hg
  isplitl [Ho]; · iexact Ho
  isplitl [H0]; · iapply (leaves_live m c t 0 _ rfl (after_0 m c t).symm); iexact H0
  isplitl [H1]; · iapply (leaves_live m c t 1 _ rfl (after_1 m c t).symm); iexact H1
  isplitl [H2]; · iapply (leaves_live m c t 2 _ rfl (after_2 m c t).symm); iexact H2
  isplitl [H3]; · iapply (leaves_live m c t 3 _ rfl (after_3 m c t).symm); iexact H3
  isplitl [H4]; · iapply (leaves_live m c t 4 _ rfl (after_4 m c t).symm); iexact H4
  isplitl [H5]; · iapply (leaves_live m c t 5 _ rfl (after_5 m c t).symm); iexact H5
  isplitl [H6]; · iapply (leaves_live m c t 6 _ rfl (after_6 m c t).symm); iexact H6
  isplitl [H7]; · iapply (leaves_live m c t 7 _ rfl (after_7 m c t).symm); iexact H7
  isplitl [H8]; · iapply (leaves_live m c t 8 _ rfl (after_8 m c t).symm); iexact H8
  isplitl [H9]; · iapply (leaves_last m c t 9 _ d9 (fun h => (live_last t h).1) (fun h => (idle_last t h).1) (fun h => by have := (flush0_9 t).mp h; have := lt_of_lt_of_eq t.isLt N_0; omega) (fun _ => (after_9 m c t).symm)); iexact H9
  isplitl [H10]; · iapply (leaves_last m c t 10 _ d10 (fun h => (live_last t h).2.1) (fun h => (idle_last t h).2.1) (fun h => by have := (flush0_10 t).mp h; have := lt_of_lt_of_eq t.isLt N_0; omega) (fun _ => (after_10 m c t).symm)); iexact H10
  isplitl [H11]; · iapply (leaves_live m c t 11 _ rfl (after_11 m c t).symm); iexact H11
  isplitl [H12]; · iapply (leaves_live m c t 12 _ rfl (after_12 m c t).symm); iexact H12
  isplitl [H13]; · iapply (leaves_live m c t 13 _ rfl (after_13 m c t).symm); iexact H13
  isplitl [H14]; · iapply (leaves_14 m c t d14); iexact H14
  iapply (leaves_last m c t 15 _ d15 (fun h => (live_last t h).2.2) (fun h => (idle_last t h).2.2) (fun h => by have := (flush0_15 t).mp h; have := lt_of_lt_of_eq t.isLt N_0; omega) (fun _ => (after_15 m c t).symm)); iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, ΦA_eq]
  unfold PhiS
  iintro ⟨⟨HS0, ⟨%d1, HS1⟩, ⟨%d2, HS2⟩, ⟨%d3, HS3⟩⟩, Hg⟩
  isplitl [HS0 HS1 HS2 HS3]
  · isplitl [HS0]
    · iexact HS0
    isplitl [HS1]
    · iexists _; isplitr; swap; · iexact HS1
      ipureintro; exact fun h => absurd rfl h
    isplitl [HS2]
    · iexists _; isplitr; swap; · iexact HS2
      ipureintro; exact fun h => absurd rfl h
    iexists _; isplitr; swap; · iexact HS3
    ipureintro; exact fun h => absurd rfl h
  iexact Hg

theorem hout (c : Dev nD) : (dats m 0 c).Φ (Fin.last cfg0.N) ⊢ Pipeline.ΦA spec0 c := by
  rw [show (dats m 0 c).Φ (Fin.last cfg0.N) = PhiS m c cfg0.N from rfl, ΦA_eq]
  unfold PhiS
  iintro ⟨⟨HS0, ⟨%d1, %e1, HS1⟩, ⟨%d2, %e2, HS2⟩, ⟨%d3, %e3, HS3⟩⟩, Hg⟩
  isplitl [HS0 HS1 HS2 HS3]
  · isplitl [HS0]
    · iexact HS0
    isplitl [HS1]
    · iexists _; iexact HS1
    isplitl [HS2]
    · iexists _; iexact HS2
    iexists _; iexact HS3
  iexact Hg

/-! ## The run and the frame -/

-- `θ_run_frame_around_track`'s implicit arguments are found by unifying its conclusion with this one, which takes unfolding plain
-- definitions in a metavariable's type
set_option backward.isDefEq.respectTransparency.types false in
set_option maxHeartbeats 800000 in
/-- The run: every final state has the pipeline's arrays at what the proof data say, and every semaphore at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- Every run of the program ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Hand

end
-- ==== Proof.KernelFrame.lean ====
/- The frame of the kernel as printed. The idealization rewrote nothing, so the two programs are the same text, and the
   frame of `Proof/Run.lean`, which holds at any floats, is the frame of both. -/
module

public import proofs.«01_k».proof.Defs
public import proofs.«01_k».proof.Proof.Gen.Kernel
public import proofs.«01_k».proof.Proof.Run
public import Idealize.ShloMosaic.Lib.Tactic

@[expose] public section

set_option maxRecDepth 16384

noncomputable section

namespace Cert.Kernel.Hand

open Idealize.ShloMosaic Idealize.SL.Sem

variable {F : FTy → Type} [FloatOps F]

/-- The two programs define the same functions. -/
theorem defs_eq : (Cert.Kernel.defs (F := F)) = Cert.KernelIdeal.defs (F := F) := by sl_kernel_rfl

/-- The two programs are equal. -/
theorem main_eq : (Cert.Kernel.main (F := F)) = Cert.KernelIdeal.main (F := F) := rfl

variable (m : (ℓ : Loc nD τ sig) → Buf (Elt F) ℓ) (ρ : Dev nD → PrngReg)

/-- Every run of the printed kernel ends, without a fault, with its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq, main_eq]
  exact Cert.KernelIdeal.Hand.frame m ρ

end Cert.Kernel.Hand

end
-- ==== Proof.Math.lean ====
/- What the layer's backward computes, as formulas over the extended reals, and the sums over the weight rows cut into
   blocks. The kernel and the reference are each shown to compute these formulas. -/
module

public import Idealize.ShloMosaic.PureOps.Ideal.Laws
public import Idealize.ShloMosaic.Lib.ValueIdx

@[expose] public section

noncomputable section

namespace Cert.Dora

open Idealize.ShloMosaic Idealize.ShloMosaic.ValueIdx
open scoped BigOperators

/-- The arguments at `Ideal`: the tokens `X`, the weight's codes `W` and row scales `S`, the low-rank factors `A`
    ([rank, in]) and `B` ([out, rank]), the magnitudes `M`, and the codes `Y` and token scales `D` of the gradient. -/
structure Args where
  X : Fin 1536 → Fin 2304 → EReal
  W : Fin 9216 → Fin 2304 → EReal
  S : Fin 9216 → EReal
  A : Fin 16 → Fin 2304 → EReal
  B : Fin 9216 → Fin 16 → EReal
  M : Fin 9216 → EReal
  Y : Fin 1536 → Fin 9216 → EReal
  D : Fin 1536 → EReal

namespace Args

variable (a : Args)

/-- The direction: the decoded weight plus the low-rank product. -/
def v (o : Fin 9216) (i : Fin 2304) : EReal := a.W o i * a.S o + ∑ r : Fin 16, a.B o r * a.A r i
/-- A row's norm before the guard, -/
def s (o : Fin 9216) : EReal := Ideal.sqrt (∑ i : Fin 2304, a.v o i * a.v o i)
/-- and with a zero norm replaced by one. -/
def n (o : Fin 9216) : EReal :=
  Scalar.select (FloatOps.cmpf (F := Ideal) (φ := .f32) .oeq (a.s o) (Ideal.ofBits .f32 0x00000000#32)) (Ideal.ofBits .f32 0x3F800000#32) (a.s o)
/-- The row's factor, magnitude over norm. -/
def c (o : Fin 9216) : EReal := Ideal.div (a.M o) (a.n o)
/-- Tokens times directions. -/
def z (t : Fin 1536) (o : Fin 9216) : EReal := ∑ i : Fin 2304, a.X t i * a.v o i
/-- The decoded gradient, -/
def dy (t : Fin 1536) (o : Fin 9216) : EReal := a.Y t o * a.D t
/-- and times the row's factor. -/
def g (t : Fin 1536) (o : Fin 9216) : EReal := a.dy t o * a.c o
/-- The magnitudes' gradient. -/
def dm (o : Fin 9216) : EReal := Ideal.div (∑ t : Fin 1536, a.dy t o * a.z t o) (a.n o)
/-- The coefficient of the direction's projection. -/
def k (o : Fin 9216) : EReal := Ideal.div (a.M o * a.dm o) (a.n o * a.n o)
/-- Tokens times the first low-rank factor. -/
def xa (t : Fin 1536) (r : Fin 16) : EReal := ∑ i : Fin 2304, a.X t i * a.A r i
/-- The tokens' gradient. -/
def dx (t : Fin 1536) (i : Fin 2304) : EReal := ∑ o : Fin 9216, a.g t o * a.v o i
/-- The scaled gradient times the second low-rank factor. -/
def gb (t : Fin 1536) (r : Fin 16) : EReal := ∑ o : Fin 9216, a.g t o * a.B o r
/-- The first factor's gradient. -/
def dla (r : Fin 16) (i : Fin 2304) : EReal :=
  (∑ t : Fin 1536, a.gb t r * a.X t i) - ∑ o : Fin 9216, a.B o r * a.k o * a.v o i
/-- The second factor's gradient. -/
def dlb (o : Fin 9216) (r : Fin 16) : EReal :=
  (∑ t : Fin 1536, a.xa t r * a.g t o) - a.k o * ∑ i : Fin 2304, a.A r i * a.v o i

end Args

/-! ## Sums cut into blocks -/

/-- A sum over `p * q` positions is the sum over `p` blocks of `q`. -/
theorem sum_blocks {p q n : ℕ} (h : p * q = n) (G : Fin n → EReal) (f : Fin p → Fin q → Fin n)
    (hf : ∀ i j, (f i j).val = i.val * q + j.val) : ∑ i : Fin p, ∑ j : Fin q, G (f i j) = ∑ o : Fin n, G o := by
  subst h
  rw [← Fintype.sum_prod_type' (fun i j => G (f i j))]
  refine Fintype.sum_equiv finProdFinEquiv _ _ fun x => congrArg G (Fin.ext ?_)
  rw [hf, finProdFinEquiv_apply_val, Nat.mul_comm, Nat.add_comm]

/-- Weight row `j` of block `b`. -/
def row (b : Fin 18) (j : Fin 512) : Fin 9216 := ⟨b.val * 512 + j.val, by omega⟩
/-- Token `s` of batch `b`. -/
def tok (b : Fin 12) (s : Fin 128) : Fin 1536 := ⟨b.val * 128 + s.val, by omega⟩

/-- The batch of a token, -/
def bat (t : Fin 1536) : Fin 12 := ⟨t.val / 128, by omega⟩
/-- and its place there. -/
def pos (t : Fin 1536) : Fin 128 := ⟨t.val % 128, Nat.mod_lt _ (by norm_num)⟩

theorem bat_tok (b : Fin 12) (s : Fin 128) : bat (tok b s) = b := Fin.ext (by show (b.val * 128 + s.val) / 128 = b.val; omega)
theorem pos_tok (b : Fin 12) (s : Fin 128) : pos (tok b s) = s := Fin.ext (by show (b.val * 128 + s.val) % 128 = s.val; omega)

/-- The arguments as the two programs take them: tokens by batch and place. -/
def argsOf (x : (⟨3, ![12, 128, 2304]⟩ : Shape).Idx → EReal) (w : (⟨2, ![9216, 2304]⟩ : Shape).Idx → EReal)
    (s : (⟨1, ![9216]⟩ : Shape).Idx → EReal) (la : (⟨2, ![16, 2304]⟩ : Shape).Idx → EReal)
    (lb : (⟨2, ![9216, 16]⟩ : Shape).Idx → EReal) (mg : (⟨1, ![9216]⟩ : Shape).Idx → EReal)
    (y : (⟨3, ![12, 128, 9216]⟩ : Shape).Idx → EReal) (d : (⟨2, ![12, 128]⟩ : Shape).Idx → EReal) : Args where
  X t i := x (ix3 (bat t) (pos t) i)
  W o i := w (ix2 o i)
  S o := s (ix1 o)
  A r i := la (ix2 r i)
  B o r := lb (ix2 o r)
  M o := mg (ix1 o)
  Y t o := y (ix3 (bat t) (pos t) o)
  D t := d (ix2 (bat t) (pos t))

theorem sum_row (G : Fin 9216 → EReal) : ∑ b : Fin 18, ∑ j : Fin 512, G (row b j) = ∑ o : Fin 9216, G o :=
  sum_blocks (by norm_num) G row fun _ _ => rfl
theorem sum_tok (G : Fin 1536 → EReal) : ∑ b : Fin 12, ∑ s : Fin 128, G (tok b s) = ∑ t : Fin 1536, G t :=
  sum_blocks (by norm_num) G tok fun _ _ => rfl

/-- Every row is some row of some block. -/
theorem exists_row (o : Fin 9216) : ∃ b j, o = row b j :=
  ⟨⟨o.val / 512, by omega⟩, ⟨o.val % 512, Nat.mod_lt _ (by norm_num)⟩, Fin.ext (by show o.val = o.val / 512 * 512 + o.val % 512; omega)⟩
/-- Every token is some token of some batch. -/
theorem exists_tok (t : Fin 1536) : ∃ b s, t = tok b s :=
  ⟨⟨t.val / 128, by omega⟩, ⟨t.val % 128, Nat.mod_lt _ (by norm_num)⟩, Fin.ext (by show t.val = t.val / 128 * 128 + t.val % 128; omega)⟩

/-- A sum over the positions with a property, which an injective map enumerates, is the sum along the map. -/
theorem sum_fiber {ι κ : Type} [Fintype ι] [DecidableEq ι] [Fintype κ] (p : ι → Prop) [DecidablePred p] (g : κ → ι)
    (hg : Function.Injective g) (hp : ∀ i, p i ↔ ∃ k, g k = i) (v : ι → EReal) : ∑ i ∈ Finset.univ.filter p, v i = ∑ k, v (g k) := by
  have himg : Finset.univ.filter p = Finset.univ.map ⟨g, hg⟩ := by
    ext i; simp only [Finset.mem_filter, Finset.mem_univ, true_and, Finset.mem_map, Function.Embedding.coeFn_mk, hp]
  rw [himg, Finset.sum_map]; rfl

/-- A running sum from zero, one term per step, is the sum of the terms so far. -/
theorem running_sum (A f : ℕ → EReal) (h0 : A 0 = 0 + f 0) (hs : ∀ n, A (n + 1) = A n + f (n + 1)) (n : ℕ) :
    A n = ∑ j : Fin (n + 1), f j.val := by
  induction n with
  | zero => rw [h0, zero_add]; simp
  | succ n ih => rw [hs, ih, Fin.sum_univ_castSucc (n := n + 1)]; simp

/-! ## The seven results, tokens by batch and place -/

section Results
variable (a : Args)

def rdx : (⟨3, ![12, 128, 2304]⟩ : Shape).Idx → EReal := fun j => a.dx (tok (j 0) (j 1)) (j 2)
def rdla : (⟨2, ![16, 2304]⟩ : Shape).Idx → EReal := fun j => a.dla (j 0) (j 1)
def rdlb : (⟨2, ![9216, 16]⟩ : Shape).Idx → EReal := fun j => a.dlb (j 0) (j 1)
def rdm : (⟨1, ![9216]⟩ : Shape).Idx → EReal := fun j => a.dm (j 0)
def rz : (⟨3, ![12, 128, 9216]⟩ : Shape).Idx → EReal := fun j => a.z (tok (j 0) (j 1)) (j 2)
def rxa : (⟨3, ![12, 128, 16]⟩ : Shape).Idx → EReal := fun j => a.xa (tok (j 0) (j 1)) (j 2)
def rgb : (⟨3, ![12, 128, 16]⟩ : Shape).Idx → EReal := fun j => a.gb (tok (j 0) (j 1)) (j 2)

end Results

end Cert.Dora

end
-- ==== Proof.Payload.lean ====
/- The kernel's step on one block of weight rows, read at an index over the extended reals: each value of the body is
   the corresponding formula at the block's rows. -/
module

public import proofs.«01_k».proof.Proof.Body
public import proofs.«01_k».proof.Proof.Math
public import Idealize.ShloMosaic.Lib.MatmulPlain
public import Idealize.ShloMosaic.Lib.ValueIdx

@[expose] public section

set_option maxRecDepth 16384

noncomputable section

namespace Cert.KernelIdeal.Hand

open Idealize.ShloMosaic Idealize.ShloMosaic.ValueIdx
open Cert.KernelIdeal.Gen
open Cert.Dora (Args row)
open scoped BigOperators

/-! ## Layout operations of the body at an index -/

section Layout
variable {α : Type} {p q : ℕ}

/-- A column spread over the columns of a matrix. -/
theorem bcast_col (h : (⟨2, ![p, 1]⟩ : Shape).Broadcasts ⟨2, ![p, q]⟩) (x : (⟨2, ![p, 1]⟩ : Shape).Idx → α) (i : Fin p) (j : Fin q) :
    broadcastTo ⟨2, ![p, q]⟩ x h (ix2 i j) = x (ix2 i 0) :=
  broadcastTo_apply x h _ _ fun a => by
    match a with
    | ⟨0, _⟩ =>
      show i.val = if p = 1 then 0 else i.val
      split_ifs with hp
      · have := i.isLt; omega
      · rfl
    | ⟨1, _⟩ => rfl

/-- A row spread over the rows of a matrix. -/
theorem bcast_row (h : (⟨2, ![1, q]⟩ : Shape).Broadcasts ⟨2, ![p, q]⟩) (x : (⟨2, ![1, q]⟩ : Shape).Idx → α) (i : Fin p) (j : Fin q) :
    broadcastTo ⟨2, ![p, q]⟩ x h (ix2 i j) = x (ix2 0 j) :=
  broadcastTo_apply x h _ _ fun a => by
    match a with
    | ⟨0, _⟩ => rfl
    | ⟨1, _⟩ =>
      show j.val = if q = 1 then 0 else j.val
      split_ifs with hq
      · have := j.isLt; omega
      · rfl

/-- A matrix transposed. -/
theorem transp (h : (⟨2, ![p, q]⟩ : Shape).Transposes [1, 0] ⟨2, ![q, p]⟩) (x : (⟨2, ![p, q]⟩ : Shape).Idx → α) (i : Fin q) (j : Fin p) :
    transpose ⟨2, ![q, p]⟩ [1, 0] x h (ix2 i j) = x (ix2 j i) :=
  transpose_apply _ x h _ _ fun b => by
    match b with
    | ⟨0, _⟩ => rfl
    | ⟨1, _⟩ => rfl

/-- A vector as a column, -/
theorem cast_col (h : (⟨1, ![p]⟩ : Shape).ShapeCasts ⟨2, ![p, 1]⟩) (x : (⟨1, ![p]⟩ : Shape).Idx → α) (i : Fin p) :
    shapeCast ⟨2, ![p, 1]⟩ x h (ix2 i 0) = x (ix1 i) :=
  shapeCast_apply x h _ _ (by
    rw [Shape.rowMajor_val_one, Shape.rowMajor_val_two]
    show i.val = i.val * 1 + 0; omega)

/-- and as a row. -/
theorem cast_row (h : (⟨1, ![p]⟩ : Shape).ShapeCasts ⟨2, ![1, p]⟩) (x : (⟨1, ![p]⟩ : Shape).Idx → α) (i : Fin p) :
    shapeCast ⟨2, ![1, p]⟩ x h (ix2 0 i) = x (ix1 i) :=
  shapeCast_apply x h _ _ (by
    rw [Shape.rowMajor_val_one, Shape.rowMajor_val_two]
    show i.val = 0 * p + i.val; omega)

/-- The sum of a matrix's rows, -/
theorem sum_cols {φ : FTy} (x : FVec Ideal ⟨2, ![p, q]⟩ φ) (acc : BitVec φ.bits) (h : (⟨2, ![p, q]⟩ : Shape).Reduces [1] ⟨1, ![p]⟩)
    (hφ : FKind.Formats φ) (hacc : acc = FKind.add.neutral φ hφ) (i : Fin p) :
    multiReduction .add [1] ⟨1, ![p]⟩ x acc h hφ hacc (ix1 i) = ∑ j : Fin q, x (ix2 i j) := by
  rw [Ideal.multiReduction_add_single]
  refine Finset.sum_congr rfl fun j _ => congrArg x (funext fun b => Fin.ext ?_)
  match b with
  | ⟨0, _⟩ => rfl
  | ⟨1, _⟩ => rfl

/-- and of its columns. -/
theorem sum_rows {φ : FTy} (x : FVec Ideal ⟨2, ![p, q]⟩ φ) (acc : BitVec φ.bits) (h : (⟨2, ![p, q]⟩ : Shape).Reduces [0] ⟨1, ![q]⟩)
    (hφ : FKind.Formats φ) (hacc : acc = FKind.add.neutral φ hφ) (j : Fin q) :
    multiReduction .add [0] ⟨1, ![q]⟩ x acc h hφ hacc (ix1 j) = ∑ i : Fin p, x (ix2 i j) := by
  rw [Ideal.multiReduction_add_single]
  refine Finset.sum_congr rfl fun i _ => congrArg x (funext fun b => Fin.ext ?_)
  match b with
  | ⟨0, _⟩ => rfl
  | ⟨1, _⟩ => rfl

end Layout

/-- A matrix product from a zero accumulator. -/
theorem mm_plain {M K N : ℕ} {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (i : Fin M) (j : Fin N) :
    matmul d none l r (constant ⟨2, ![M, N]⟩ .f32 0x00000000#32) (ix2 i j) = ∑ k : Fin K, l (ix2 i k) * r (ix2 k j) := by
  subst hd
  refine (Ideal.matmul_plain_apply none l r _ i j).trans ?_
  rw [constant_apply, Ideal.ofBits_zero_f32, zero_add]

/-- The same with the right operand transposed. -/
theorem mm_transposed {M K N : ℕ} {φ₁ φ₂ : FTy} (d : DotDims ⟨2, ![M, K]⟩ ⟨2, ![N, K]⟩ ⟨2, ![M, N]⟩) (hd : d = DotDims.transposedRhs M K N)
    (l : FVec Ideal ⟨2, ![M, K]⟩ φ₁) (r : FVec Ideal ⟨2, ![N, K]⟩ φ₂) (i : Fin M) (j : Fin N) :
    matmul d none l r (constant ⟨2, ![M, N]⟩ .f32 0x00000000#32) (ix2 i j) = ∑ k : Fin K, l (ix2 i k) * r (ix2 j k) := by
  subst hd
  refine (Ideal.matmul_transposedRhs_apply none l r _ i j).trans ?_
  rw [constant_apply, Ideal.ofBits_zero_f32, zero_add]

/-! ## The blocks -/

/-- The input blocks at point `b` hold the arguments' entries at the block's rows. -/
structure Blocks (a : Args) (b : Fin 18) (x0 : Vec Ideal S1536x2304 .bf16) (x1 : Vec Ideal S512x2304 .fp8e4m3) (x2 : Vec Ideal S512x1 .f32)
    (x3 : Vec Ideal S16x2304 .bf16) (x4 : Vec Ideal S512x16 .bf16) (x5 : Vec Ideal S16x512 .bf16) (x6 : Vec Ideal S1x512 .f32)
    (x7 : Vec Ideal S1536x512 .fp8e5m2) (x8 : Vec Ideal S1536x1 .f32) : Prop where
  h0 : ∀ t i, x0 (ix2 t i) = a.X t i
  h1 : ∀ p i, x1 (ix2 p i) = a.W (row b p) i
  h2 : ∀ p, x2 (ix2 p 0) = a.S (row b p)
  h3 : ∀ r i, x3 (ix2 r i) = a.A r i
  h4 : ∀ p r, x4 (ix2 p r) = a.B (row b p) r
  h5 : ∀ r p, x5 (ix2 r p) = a.B (row b p) r
  h6 : ∀ p, x6 (ix2 0 p) = a.M (row b p)
  h7 : ∀ t p, x7 (ix2 t p) = a.Y t (row b p)
  h8 : ∀ t, x8 (ix2 t 0) = a.D t

variable {a : Args} {b : Fin 18} {x0 : Vec Ideal S1536x2304 .bf16} {x1 : Vec Ideal S512x2304 .fp8e4m3} {x2 : Vec Ideal S512x1 .f32}
    {x3 : Vec Ideal S16x2304 .bf16} {x4 : Vec Ideal S512x16 .bf16} {x5 : Vec Ideal S16x512 .bf16} {x6 : Vec Ideal S1x512 .f32}
    {x7 : Vec Ideal S1536x512 .fp8e5m2} {x8 : Vec Ideal S1536x1 .f32}
variable (h : Blocks a b x0 x1 x2 x3 x4 x5 x6 x7 x8)
include h

/-- The direction's block. -/
theorem pay11_at (p : Fin 512) (i : Fin 2304) : k0_pay11 x1 x2 x4 x3 (ix2 p i) = a.v (row b p) i := by
  unfold k0_pay11
  simp only [shapeCast_self]
  rw [addf_apply, mulf_apply, extf_apply, bcast_col, mm_plain dot_S512x16_S16x2304_S512x2304_1_0_0_1_n_n rfl, h.h1, h.h2]
  simp only [h.h3, h.h4]; rfl

theorem pay13_at (p : Fin 512) (i : Fin 2304) : k0_pay13 x1 x2 x4 x3 (ix2 p i) = a.v (row b p) i := by
  unfold k0_pay13
  simp only [shapeCast_self]
  rw [truncf_apply, pay11_at h]

/-- The norms' block. -/
theorem pay12_at (p : Fin 512) : k0_pay12 x1 x2 x4 x3 (ix2 0 p) = a.n (row b p) := by
  unfold k0_pay12
  simp only [shapeCast_self]
  rw [extractStridedSlice_apply _ _ _ _ (ix2 (0 : Fin 128) p) (fun a => by
    match a with
    | ⟨0, _⟩ => rfl
    | ⟨1, _⟩ => show p.val = 0 + p.val; omega), transp, bcast_col, select_apply, cmpf_apply]
  have hs : sqrt (shapeCast S512x1 (multiReduction .add [1] S512 (mulf (k0_pay11 x1 x2 x4 x3) (k0_pay11 x1 x2 x4 x3)) 0x00000000#32 reduces_S512x2304_S512 (.inl rfl) rfl) shapeCasts_S512_S512x1) (ix2 p 0) = a.s (row b p) := by
    show Ideal.sqrt (shapeCast S512x1 _ shapeCasts_S512_S512x1 (ix2 p 0)) = _
    refine congrArg Ideal.sqrt (((cast_col _ _ p).trans (sum_cols _ _ _ _ _ p)).trans ?_)
    simp only [mulf_apply, pay11_at h]
  rw [hs]; rfl

theorem pay14_at (p : Fin 512) : k0_pay14 x6 (ix2 0 p) = a.M (row b p) := by
  unfold k0_pay14
  simp only [shapeCast_self]
  exact h.h6 p

/-- The rows' factors. -/
theorem pay15_at (p : Fin 512) : k0_pay15 x1 x2 x4 x3 x6 (ix2 0 p) = a.c (row b p) := by
  unfold k0_pay15
  show divf _ _ _ = _
  rw [divf_apply, pay14_at h, pay12_at h]; rfl

theorem pay16_at (t : Fin 1536) (i : Fin 2304) : k0_pay16 x0 (ix2 t i) = a.X t i := by
  unfold k0_pay16
  simp only [shapeCast_self]
  exact h.h0 t i

/-- Tokens times directions. -/
theorem pay17_at (t : Fin 1536) (p : Fin 512) : k0_pay17 (k0_pay16 x0) (k0_pay13 x1 x2 x4 x3) (ix2 t p) = a.z t (row b p) := by
  unfold k0_pay17
  show matmul _ _ _ _ _ _ = _
  rw [mm_transposed dot_S1536x2304_S512x2304_S1536x512_1_1_0_0_n_n rfl]
  simp only [pay16_at h, pay13_at h]; rfl

/-- The decoded gradient. -/
theorem pay19_at (t : Fin 1536) (p : Fin 512) : k0_pay19 x7 x8 (ix2 t p) = a.dy t (row b p) := by
  unfold k0_pay19
  simp only [shapeCast_self]
  rw [mulf_apply, extf_apply, bcast_col, h.h7, h.h8]; rfl

/-- The magnitudes' gradient. -/
theorem dmVal_at (p : Fin 512) : dmVal x0 x1 x2 x3 x4 x7 x8 (ix2 0 p) = a.dm (row b p) := by
  unfold dmVal k0_pay20
  show divf _ _ _ = _
  rw [divf_apply]
  refine congrArg₂ Ideal.div (((cast_row _ _ p).trans (sum_rows _ _ _ _ _ p)).trans ?_) (pay12_at h p)
  simp only [mulf_apply, pay19_at h, pay17_at h]

/-- The gradient times the rows' factors. -/
theorem gVal_at (t : Fin 1536) (p : Fin 512) : gVal x1 x2 x3 x4 x6 x7 x8 (ix2 t p) = a.g t (row b p) := by
  unfold gVal k0_pay21
  show truncf _ _ _ _ = _
  rw [truncf_apply, mulf_apply, bcast_row, pay19_at h, pay15_at h]; rfl

/-- The projection's coefficients. -/
theorem kVal_at (p : Fin 512) : kVal x0 x1 x2 x3 x4 x6 x7 x8 (ix2 0 p) = a.k (row b p) := by
  have hdm : k0_pay20 (k0_pay12 x1 x2 x4 x3) (k0_pay16 x0) (k0_pay13 x1 x2 x4 x3) x7 x8 (ix2 0 p) = a.dm (row b p) := dmVal_at h p
  unfold kVal k0_pay22
  show divf _ _ _ = _
  rw [divf_apply, mulf_apply, mulf_apply, pay14_at h, pay12_at h, hdm]; rfl

/-- Tokens times directions, as stored. -/
theorem zVal_at (t : Fin 1536) (p : Fin 512) : zVal x0 x1 x2 x3 x4 (ix2 t p) = a.z t (row b p) := by
  unfold zVal k0_pay18
  exact pay17_at h t p

/-- Tokens times the first factor. -/
theorem xaVal_at (t : Fin 1536) (r : Fin 16) : k0_pay7 x0 x3 (ix2 t r) = a.xa t r := by
  unfold k0_pay7
  simp only [shapeCast_self]
  rw [truncf_apply, mm_transposed dot_S1536x2304_S16x2304_S1536x16_1_1_0_0_n_n rfl]
  simp only [h.h0, h.h3]; rfl

/-- One block's addition to the tokens' gradient. -/
theorem accStep_at (s : Vec Ideal S1536x2304 .f32) (t : Fin 1536) (i : Fin 2304) :
    accStep x1 x2 x3 x4 x6 x7 x8 s (ix2 t i) = s (ix2 t i) + ∑ p : Fin 512, a.g t (row b p) * a.v (row b p) i := by
  have hg : ∀ t p, k0_pay21 (k0_pay15 x1 x2 x4 x3 x6) x7 x8 (ix2 t p) = a.g t (row b p) := gVal_at h
  unfold accStep k0_pay24
  simp only [shapeCast_self]
  rw [addf_apply, mm_plain dot_S1536x512_S512x2304_S1536x2304_1_0_0_1_n_n rfl]
  simp only [hg, pay13_at h]

/-- One block's addition to the scaled gradient times the second factor. -/
theorem gbStep_at (s : Vec Ideal S1536x16 .f32) (t : Fin 1536) (r : Fin 16) :
    gbStep x1 x2 x3 x4 x6 x7 x8 s (ix2 t r) = s (ix2 t r) + ∑ p : Fin 512, a.g t (row b p) * a.B (row b p) r := by
  unfold gbStep k0_pay1
  simp only [shapeCast_self]
  rw [addf_apply, mm_plain dot_S1536x512_S512x16_S1536x16_1_0_0_1_n_n rfl]
  simp only [gVal_at h, h.h4]

/-- One block's addition to the correction of the first factor's gradient. -/
theorem dlaStep_at (s : Vec Ideal S16x2304 .f32) (r : Fin 16) (i : Fin 2304) :
    dlaStep x0 x1 x2 x3 x4 x5 x6 x7 x8 s (ix2 r i)
      = s (ix2 r i) + ∑ p : Fin 512, a.B (row b p) r * a.k (row b p) * a.v (row b p) i := by
  have hk : ∀ p, k0_pay22 (k0_pay12 x1 x2 x4 x3) (k0_pay14 x6) (k0_pay16 x0) (k0_pay13 x1 x2 x4 x3) x7 x8 (ix2 0 p) = a.k (row b p) := kVal_at h
  have hbk : ∀ r p, k0_pay23 (k0_pay12 x1 x2 x4 x3) (k0_pay14 x6) (k0_pay16 x0) (k0_pay13 x1 x2 x4 x3) x7 x8 x5 (ix2 r p)
      = a.B (row b p) r * a.k (row b p) := fun r p => by
    unfold k0_pay23
    simp only [shapeCast_self]
    rw [truncf_apply, mulf_apply, extf_apply, bcast_row, h.h5, hk]
  unfold dlaStep k0_pay2
  simp only [shapeCast_self]
  rw [addf_apply, mm_plain dot_S16x512_S512x2304_S16x2304_1_0_0_1_n_n rfl]
  simp only [hbk, pay13_at h]

/-- The second factor's gradient. -/
theorem dlbVal_at (xa : Vec Ideal S1536x16 .bf16) (hxa : ∀ t r, xa (ix2 t r) = a.xa t r) (r : Fin 16) (p : Fin 512) :
    dlbVal x0 x1 x2 x3 x4 x6 x7 x8 xa (ix2 r p) = a.dlb (row b p) r := by
  have ht : ∀ t, transpose S16x1536 [1, 0] xa transposes_S1536x16_p1_0_S16x1536 (ix2 r t) = a.xa t r := fun t =>
    (transp _ _ _ _).trans (hxa t r)
  unfold dlbVal k0_pay3
  simp only [shapeCast_self]
  rw [truncf_apply, subf_apply, mulf_apply, bcast_row, kVal_at h, mm_plain dot_S16x1536_S1536x512_S16x512_1_0_0_1_n_n rfl, mm_transposed dot_S16x2304_S512x2304_S16x512_1_1_0_0_n_n rfl]
  simp only [ht, gVal_at h, h.h3, pay13_at h]; rfl

end Cert.KernelIdeal.Hand

end
-- ==== Proof.Values.lean ====
/- The kernel's seven results over the extended reals: the input blocks are the arguments at a block's rows, the
   accumulators are sums over the blocks so far, and each result array ends holding its formula. -/
module

public import proofs.«01_k».proof.Proof.Run
public import proofs.«01_k».proof.Proof.Payload
public import Idealize.ShloMosaic.Lib.Pipeline.Value

@[expose] public section

set_option maxRecDepth 16384

noncomputable section

namespace Cert.KernelIdeal.Hand

open Idealize.ShloMosaic Idealize.ShloMosaic.TcCoe Idealize.ShloMosaic.ValueIdx Idealize.SL.Sem
open Cert.KernelIdeal.Gen
open Cert.Dora (Args row tok bat pos argsOf running_sum sum_row bat_tok pos_tok rdx rdla rdlb rdm rz rxa rgb)
open scoped BigOperators

variable (m : (ℓ : Loc nD τ sig) → Buf (Elt Ideal) ℓ) (ρ : Dev nD → PrngReg)

/-- The arguments as launched. -/
def argsK (c : Dev nD) : Args :=
  argsOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-! ## What the region's arrays hold at its entry -/

/-- A batched array with its batches joined. -/
theorem join3 {α : Type} {n : ℕ} (h : (⟨3, ![12, 128, n]⟩ : Shape).ShapeCasts ⟨2, ![1536, n]⟩) (x : (⟨3, ![12, 128, n]⟩ : Shape).Idx → α)
    (t : Fin 1536) (i : Fin n) : shapeCast ⟨2, ![1536, n]⟩ x h (ix2 t i) = x (ix3 (bat t) (pos t) i) :=
  shapeCast_apply x h _ _ (by
    rw [Shape.rowMajor_val_three, Shape.rowMajor_val_two]
    show (t.val / 128 * 128 + t.val % 128) * n + i.val = t.val * n + i.val
    rw [Nat.div_add_mod'])

/-- The same array cut into its batches again. -/
theorem split3 {α : Type} {n : ℕ} (h : (⟨2, ![1536, n]⟩ : Shape).ShapeCasts ⟨3, ![12, 128, n]⟩) (x : (⟨2, ![1536, n]⟩ : Shape).Idx → α)
    (b : Fin 12) (s : Fin 128) (i : Fin n) : shapeCast ⟨3, ![12, 128, n]⟩ x h (ix3 b s i) = x (ix2 (tok b s) i) :=
  shapeCast_apply x h _ _ (by
    rw [Shape.rowMajor_val_three, Shape.rowMajor_val_two]
    rfl)

/-- A batched vector as one column. -/
theorem join_col {α : Type} (h : (⟨2, ![12, 128]⟩ : Shape).ShapeCasts ⟨2, ![1536, 1]⟩) (x : (⟨2, ![12, 128]⟩ : Shape).Idx → α)
    (t : Fin 1536) : shapeCast ⟨2, ![1536, 1]⟩ x h (ix2 t 0) = x (ix2 (bat t) (pos t)) :=
  shapeCast_apply x h _ _ (by
    rw [Shape.rowMajor_val_two, Shape.rowMajor_val_two]
    show t.val / 128 * 128 + t.val % 128 = t.val * 1 + 0
    omega)

theorem V_v0 (c : Dev nD) (t : Fin 1536) (i : Fin 2304) : V m c main_v0 (ix2 t i) = (argsK m c).X t i :=
  join3 shapeCasts_S12x128x2304_S1536x2304 (m ((c : Thread nD τ).loc main_arg0)) t i
theorem V_v1 (c : Dev nD) (o : Fin 9216) : V m c main_v1 (ix2 o 0) = (argsK m c).S o :=
  cast_col shapeCasts_S9216_S9216x1 (m ((c : Thread nD τ).loc main_arg2)) o
theorem V_v2 (c : Dev nD) (r : Fin 16) (o : Fin 9216) : V m c main_v2 (ix2 r o) = (argsK m c).B o r :=
  transp transposes_S9216x16_S16x9216_1_0 (m ((c : Thread nD τ).loc main_arg4)) r o
theorem V_v3 (c : Dev nD) (o : Fin 9216) : V m c main_v3 (ix2 0 o) = (argsK m c).M o :=
  cast_row shapeCasts_S9216_S1x9216 (m ((c : Thread nD τ).loc main_arg5)) o
theorem V_v4 (c : Dev nD) (t : Fin 1536) (o : Fin 9216) : V m c main_v4 (ix2 t o) = (argsK m c).Y t o :=
  join3 shapeCasts_S12x128x9216_S1536x9216 (m ((c : Thread nD τ).loc main_arg6)) t o
theorem V_v5 (c : Dev nD) (t : Fin 1536) : V m c main_v5 (ix2 t 0) = (argsK m c).D t :=
  join_col shapeCasts_S12x128_S1536x1 (m ((c : Thread nD τ).loc main_arg7)) t
theorem V_a1 (c : Dev nD) (o : Fin 9216) (i : Fin 2304) : V m c main_arg1 (ix2 o i) = (argsK m c).W o i := by
  rw [V_main_arg1]; rfl
theorem V_a3 (c : Dev nD) (r : Fin 16) (i : Fin 2304) : V m c main_arg3 (ix2 r i) = (argsK m c).A r i := by
  rw [V_main_arg3]; rfl
theorem V_a4 (c : Dev nD) (o : Fin 9216) (r : Fin 16) : V m c main_arg4 (ix2 o r) = (argsK m c).B o r := by
  rw [V_main_arg4]; rfl

/-! ## The windows' blocks -/

/-- The block of rows of a grid point. -/
def bk (t : Fin cfg0.N) : Fin 18 := ⟨t.val, lt_of_lt_of_eq t.isLt N_0⟩

theorem idx_0 : ∀ t : Fin cfg0.N, win0_0.index t 0 = 0 ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = t.val ∧ win0_2.index t 1 = 0 := by decide +kernel
theorem idx_3 : ∀ t : Fin cfg0.N, win0_3.index t 0 = 0 ∧ win0_3.index t 1 = 0 := by decide +kernel
theorem idx_4 : ∀ t : Fin cfg0.N, win0_4.index t 0 = t.val ∧ win0_4.index t 1 = 0 := by decide +kernel
theorem idx_5 : ∀ t : Fin cfg0.N, win0_5.index t 0 = 0 ∧ win0_5.index t 1 = t.val := by decide +kernel
theorem idx_6 : ∀ t : Fin cfg0.N, win0_6.index t 0 = 0 ∧ win0_6.index t 1 = t.val := by decide +kernel
theorem idx_7 : ∀ t : Fin cfg0.N, win0_7.index t 0 = 0 ∧ win0_7.index t 1 = t.val := by decide +kernel
theorem idx_8 : ∀ t : Fin cfg0.N, win0_8.index t 0 = 0 ∧ win0_8.index t 1 = 0 := by decide +kernel
theorem idx_9 : ∀ t : Fin cfg0.N, win0_9.index t 0 = 0 ∧ win0_9.index t 1 = 0 := by decide +kernel
theorem idx_10 : ∀ t : Fin cfg0.N, win0_10.index t 0 = 0 ∧ win0_10.index t 1 = 0 := by decide +kernel
theorem idx_11 : ∀ t : Fin cfg0.N, win0_11.index t 0 = 0 ∧ win0_11.index t 1 = t.val := by decide +kernel
theorem idx_12 : ∀ t : Fin cfg0.N, win0_12.index t 0 = 0 ∧ win0_12.index t 1 = t.val := by decide +kernel
theorem idx_13 : ∀ t : Fin cfg0.N, win0_13.index t 0 = 0 ∧ win0_13.index t 1 = t.val := by decide +kernel
theorem idx_14 : ∀ t : Fin cfg0.N, win0_14.index t 0 = 0 ∧ win0_14.index t 1 = 0 := by decide +kernel
theorem idx_15 : ∀ t : Fin cfg0.N, win0_15.index t 0 = 0 ∧ win0_15.index t 1 = 0 := by decide +kernel

/-- The input blocks at a point are the arguments at the point's rows. -/
theorem blocks (c : Dev nD) (t : Fin cfg0.N) : Blocks (argsK m c) (bk t) (iblk m c 0 t) (iblk m c 1 t) (iblk m c 2 t) (iblk m c 3 t)
    (iblk m c 4 t) (iblk m c 5 t) (iblk m c 6 t) (iblk m c 7 t) (iblk m c 8 t) where
  h0 t' i := by
    unfold iblk
    rw [View.read_apply]
    refine (congrArg (V m c main_v0) (funext fun a => Fin.ext ?_)).trans (V_v0 m c t' i)
    match a with
    | ⟨0, _⟩ => show win0_0.index t 0 * 1536 + 1 * t'.val = t'.val; rw [(idx_0 t).1]; omega
    | ⟨1, _⟩ => show win0_0.index t 1 * 2304 + 1 * i.val = i.val; rw [(idx_0 t).2]; omega
  h1 p i := by
    unfold iblk
    rw [View.read_apply]
    refine (congrArg (V m c main_arg1) (funext fun a => Fin.ext ?_)).trans (V_a1 m c (row (bk t) p) i)
    match a with
    | ⟨0, _⟩ => show win0_1.index t 0 * 512 + 1 * p.val = t.val * 512 + p.val; rw [(idx_1 t).1]; omega
    | ⟨1, _⟩ => show win0_1.index t 1 * 2304 + 1 * i.val = i.val; rw [(idx_1 t).2]; omega
  h2 p := by
    unfold iblk
    rw [View.read_apply]
    refine (congrArg (V m c main_v1) (funext fun a => Fin.ext ?_)).trans (V_v1 m c (row (bk t) p))
    match a with
    | ⟨0, _⟩ => show win0_2.index t 0 * 512 + 1 * p.val = t.val * 512 + p.val; rw [(idx_2 t).1]; omega
    | ⟨1, _⟩ => show win0_2.index t 1 * 1 + 1 * (0 : Fin 1).val = (0 : Fin 1).val; rw [(idx_2 t).2]; omega
  h3 r i := by
    unfold iblk
    rw [View.read_apply]
    refine (congrArg (V m c main_arg3) (funext fun a => Fin.ext ?_)).trans (V_a3 m c r i)
    match a with
    | ⟨0, _⟩ => show win0_3.index t 0 * 16 + 1 * r.val = r.val; rw [(idx_3 t).1]; omega
    | ⟨1, _⟩ => show win0_3.index t 1 * 2304 + 1 * i.val = i.val; rw [(idx_3 t).2]; omega
  h4 p r := by
    unfold iblk
    rw [View.read_apply]
    refine (congrArg (V m c main_arg4) (funext fun a => Fin.ext ?_)).trans (V_a4 m c (row (bk t) p) r)
    match a with
    | ⟨0, _⟩ => show win0_4.index t 0 * 512 + 1 * p.val = t.val * 512 + p.val; rw [(idx_4 t).1]; omega
    | ⟨1, _⟩ => show win0_4.index t 1 * 16 + 1 * r.val = r.val; rw [(idx_4 t).2]; omega
  h5 r p := by
    unfold iblk
    rw [View.read_apply]
    refine (congrArg (V m c main_v2) (funext fun a => Fin.ext ?_)).trans (V_v2 m c r (row (bk t) p))
    match a with
    | ⟨0, _⟩ => show win0_5.index t 0 * 16 + 1 * r.val = r.val; rw [(idx_5 t).1]; omega
    | ⟨1, _⟩ => show win0_5.index t 1 * 512 + 1 * p.val = t.val * 512 + p.val; rw [(idx_5 t).2]; omega
  h6 p := by
    unfold iblk
    rw [View.read_apply]
    refine (congrArg (V m c main_v3) (funext fun a => Fin.ext ?_)).trans (V_v3 m c (row (bk t) p))
    match a with
    | ⟨0, _⟩ => show win0_6.index t 0 * 1 + 1 * (0 : Fin 1).val = (0 : Fin 1).val; rw [(idx_6 t).1]; omega
    | ⟨1, _⟩ => show win0_6.index t 1 * 512 + 1 * p.val = t.val * 512 + p.val; rw [(idx_6 t).2]; omega
  h7 t' p := by
    unfold iblk
    rw [View.read_apply]
    refine (congrArg (V m c main_v4) (funext fun a => Fin.ext ?_)).trans (V_v4 m c t' (row (bk t) p))
    match a with
    | ⟨0, _⟩ => show win0_7.index t 0 * 1536 + 1 * t'.val = t'.val; rw [(idx_7 t).1]; omega
    | ⟨1, _⟩ => show win0_7.index t 1 * 512 + 1 * p.val = t.val * 512 + p.val; rw [(idx_7 t).2]; omega
  h8 t' := by
    unfold iblk
    rw [View.read_apply]
    refine (congrArg (V m c main_v5) (funext fun a => Fin.ext ?_)).trans (V_v5 m c t')
    match a with
    | ⟨0, _⟩ => show win0_8.index t 0 * 1536 + 1 * t'.val = t'.val; rw [(idx_8 t).1]; omega
    | ⟨1, _⟩ => show win0_8.index t 1 * 1 + 1 * (0 : Fin 1).val = (0 : Fin 1).val; rw [(idx_8 t).2]; omega

/-! ## The accumulators -/

theorem pay8_at (j : S1536x2304.Idx) : (k0_pay8 (F := Ideal)) j = 0 := by
  unfold k0_pay8; simp only [shapeCast_self]; exact Ideal.ofBits_zero_f32
theorem pay9_at (j : S16x2304.Idx) : (k0_pay9 (F := Ideal)) j = 0 := by
  unfold k0_pay9; simp only [shapeCast_self]; exact Ideal.ofBits_zero_f32
theorem pay10_at (j : S1536x16.Idx) : (k0_pay10 (F := Ideal)) j = 0 := by
  unfold k0_pay10; simp only [shapeCast_self]; exact Ideal.ofBits_zero_f32

/-- A sum over the eighteen points' blocks is the sum over all rows. -/
theorem sum_points (G : Fin 9216 → EReal) : ∑ n : Fin (17 + 1), ∑ p : Fin 512, G (row (bk (pt n.val)) p) = ∑ o : Fin 9216, G o := by
  refine Eq.trans ?_ (sum_row G)
  refine Finset.sum_congr rfl fun n _ => Finset.sum_congr rfl fun p _ => congrArg (fun b => G (row b p)) (Fin.ext ?_)
  show n.val % 18 = n.val
  exact Nat.mod_eq_of_lt n.isLt

/-- After the last point the accumulator of dx holds dx, -/
theorem accA_at (c : Dev nD) (t : Fin 1536) (i : Fin 2304) : accA m c 17 (ix2 t i) = (argsK m c).dx t i :=
  (running_sum (fun n => accA m c n (ix2 t i))
    (fun n => ∑ p : Fin 512, (argsK m c).g t (row (bk (pt n)) p) * (argsK m c).v (row (bk (pt n)) p) i)
    ((accStep_at (blocks m c (pt 0)) _ t i).trans (by rw [pay8_at]))
    (fun n => accStep_at (blocks m c (pt (n + 1))) _ t i) 17).trans
    (sum_points fun o => (argsK m c).g t o * (argsK m c).v o i)
/-- that of gb holds gb, -/
theorem gbA_at (c : Dev nD) (t : Fin 1536) (r : Fin 16) : gbA m c 17 (ix2 t r) = (argsK m c).gb t r :=
  (running_sum (fun n => gbA m c n (ix2 t r))
    (fun n => ∑ p : Fin 512, (argsK m c).g t (row (bk (pt n)) p) * (argsK m c).B (row (bk (pt n)) p) r)
    ((gbStep_at (blocks m c (pt 0)) _ t r).trans (by rw [pay10_at]))
    (fun n => gbStep_at (blocks m c (pt (n + 1))) _ t r) 17).trans
    (sum_points fun o => (argsK m c).g t o * (argsK m c).B o r)
/-- and the third the correction to dla. -/
theorem dlaA_at (c : Dev nD) (r : Fin 16) (i : Fin 2304) :
    dlaA m c 17 (ix2 r i) = ∑ o : Fin 9216, (argsK m c).B o r * (argsK m c).k o * (argsK m c).v o i :=
  (running_sum (fun n => dlaA m c n (ix2 r i))
    (fun n => ∑ p : Fin 512, (argsK m c).B (row (bk (pt n)) p) r * (argsK m c).k (row (bk (pt n)) p) * (argsK m c).v (row (bk (pt n)) p) i)
    ((dlaStep_at (blocks m c (pt 0)) _ r i).trans (by rw [pay9_at]))
    (fun n => dlaStep_at (blocks m c (pt (n + 1))) _ r i) 17).trans
    (sum_points fun o => (argsK m c).B o r * (argsK m c).k o * (argsK m c).v o i)

/-- The first factor's gradient, as the last point stores it. -/
theorem dla_at (c : Dev nD) (t : Fin cfg0.N) (r : Fin 16) (i : Fin 2304) :
    k0_pay6 (gbA m c 17) (iblk m c 0 t) (dlaA m c 17) (ix2 r i) = (argsK m c).dla r i := by
  have ht : ∀ s, transpose S16x1536 [1, 0] (k0_pay5 (gbA m c 17)) transposes_S1536x16_p1_0_S16x1536 (ix2 r s) = (argsK m c).gb s r := fun s =>
    (transp _ _ _ _).trans (gbA_at m c s r)
  unfold k0_pay6
  simp only [shapeCast_self]
  rw [truncf_apply, subf_apply, dlaA_at, mm_plain dot_S16x1536_S1536x2304_S16x2304_1_0_0_1_n_n rfl]
  simp only [ht, (blocks m c t).h0]; rfl

/-! ## The arrays after the run -/

/-- The tokens' gradient. -/
theorem final_9 (c : Dev nD) : (dats m 0 c).arrAt 9 cfg0.N = fun j => (argsK m c).dx (j 0) (j 1) := by
  refine (dats m 0 c).arrAt_eq_of_cover 9 (fun j => (argsK m c).dx (j 0) (j 1)) (fun t hf => ?_) fun j => ?_
  · have h17 : t.val = 17 := by have h := (flush0_9 t).mp hf; have := lt_of_lt_of_eq t.isLt N_0; omega
    funext j
    obtain ⟨q, r, rfl⟩ : ∃ (q : Fin 1536) (r : Fin 2304), j = ix2 q r := ⟨j 0, j 1, eq_ix2 j⟩
    rw [View.read_apply]
    have he : ((cfg0.win 9).blk t).view.emb (ix2 q r) = (ix2 q r : (⟨2, ![1536, 2304]⟩ : Shape).Idx) := funext fun a => Fin.ext (by
      match a with
      | ⟨0, _⟩ => show win0_9.index t 0 * 1536 + 1 * q.val = q.val; rw [(idx_9 t).1]; omega
      | ⟨1, _⟩ => show win0_9.index t 1 * 2304 + 1 * r.val = r.val; rw [(idx_9 t).2]; omega)
    rw [he]
    show (dats m 0 c).after 9 t (ix2 q r) = _
    rw [after_9]
    rw [h17]; exact accA_at m c q r
  · refine ⟨pt 17, (flush0_9 (pt 17)).mpr rfl, ?_⟩
    show j ∈ ((View.whole main_v6_0).slice (win0_9.rect (pt 17))).set
    rw [View.set_slice_whole, Rect.mem_set_unit]
    intro a
    have h0 : (j 0 : Nat) < 1536 := (j 0).isLt
    have h1 : (j 1 : Nat) < 2304 := (j 1).isLt
    match a with
    | ⟨0, _⟩ =>
      show win0_9.index (pt 17) 0 * 1536 ≤ (j 0 : Nat) ∧ (j 0 : Nat) < win0_9.index (pt 17) 0 * 1536 + 1536
      rw [(idx_9 _).1]; omega
    | ⟨1, _⟩ =>
      show win0_9.index (pt 17) 1 * 2304 ≤ (j 1 : Nat) ∧ (j 1 : Nat) < win0_9.index (pt 17) 1 * 2304 + 2304
      rw [(idx_9 _).2]; omega

/-- The first factor's gradient. -/
theorem final_10 (c : Dev nD) : (dats m 0 c).arrAt 10 cfg0.N = fun j => (argsK m c).dla (j 0) (j 1) := by
  refine (dats m 0 c).arrAt_eq_of_cover 10 (fun j => (argsK m c).dla (j 0) (j 1)) (fun t hf => ?_) fun j => ?_
  · have h17 : t.val = 17 := by have h := (flush0_10 t).mp hf; have := lt_of_lt_of_eq t.isLt N_0; omega
    funext j
    obtain ⟨q, r, rfl⟩ : ∃ (q : Fin 16) (r : Fin 2304), j = ix2 q r := ⟨j 0, j 1, eq_ix2 j⟩
    rw [View.read_apply]
    have he : ((cfg0.win 10).blk t).view.emb (ix2 q r) = (ix2 q r : (⟨2, ![16, 2304]⟩ : Shape).Idx) := funext fun a => Fin.ext (by
      match a with
      | ⟨0, _⟩ => show win0_10.index t 0 * 16 + 1 * q.val = q.val; rw [(idx_10 t).1]; omega
      | ⟨1, _⟩ => show win0_10.index t 1 * 2304 + 1 * r.val = r.val; rw [(idx_10 t).2]; omega)
    rw [he]
    show (dats m 0 c).after 10 t (ix2 q r) = _
    rw [after_10]
    rw [h17]; exact dla_at m c t q r
  · refine ⟨pt 17, (flush0_10 (pt 17)).mpr rfl, ?_⟩
    show j ∈ ((View.whole main_v6_1).slice (win0_10.rect (pt 17))).set
    rw [View.set_slice_whole, Rect.mem_set_unit]
    intro a
    have h0 : (j 0 : Nat) < 16 := (j 0).isLt
    have h1 : (j 1 : Nat) < 2304 := (j 1).isLt
    match a with
    | ⟨0, _⟩ =>
      show win0_10.index (pt 17) 0 * 16 ≤ (j 0 : Nat) ∧ (j 0 : Nat) < win0_10.index (pt 17) 0 * 16 + 16
      rw [(idx_10 _).1]; omega
    | ⟨1, _⟩ =>
      show win0_10.index (pt 17) 1 * 2304 ≤ (j 1 : Nat) ∧ (j 1 : Nat) < win0_10.index (pt 17) 1 * 2304 + 2304
      rw [(idx_10 _).2]; omega

/-- The second factor's gradient, transposed. -/
theorem final_11 (c : Dev nD) : (dats m 0 c).arrAt 11 cfg0.N = fun j => (argsK m c).dlb (j 1) (j 0) := by
  refine (dats m 0 c).arrAt_eq_of_cover 11 (fun j => (argsK m c).dlb (j 1) (j 0)) (fun t hf => ?_) fun j => ?_
  · funext j
    obtain ⟨q, r, rfl⟩ : ∃ (q : Fin 16) (r : Fin 512), j = ix2 q r := ⟨j 0, j 1, eq_ix2 j⟩
    rw [View.read_apply]
    have he : ((cfg0.win 11).blk t).view.emb (ix2 q r) = (ix2 q (row (bk t) r) : (⟨2, ![16, 9216]⟩ : Shape).Idx) := funext fun a => Fin.ext (by
      match a with
      | ⟨0, _⟩ => show win0_11.index t 0 * 16 + 1 * q.val = q.val; rw [(idx_11 t).1]; omega
      | ⟨1, _⟩ => show win0_11.index t 1 * 512 + 1 * r.val = t.val * 512 + r.val; rw [(idx_11 t).2]; omega)
    rw [he]
    show (dats m 0 c).after 11 t (ix2 q r) = _
    rw [after_11]
    exact dlbVal_at (blocks m c t) _ (xaVal_at (blocks m c (pt 0))) q r
  · obtain ⟨t, ht⟩ : ∃ t : Fin cfg0.N, t.val = (j 1).val / 512 :=
      ⟨⟨(j 1).val / 512, lt_of_lt_of_eq (Nat.div_lt_of_lt_mul (show (j 1).val < 512 * 18 from (j 1).isLt)) N_0.symm⟩, rfl⟩
    refine ⟨t, flush0_11 t, ?_⟩
    show j ∈ ((View.whole main_v6_2).slice (win0_11.rect t)).set
    rw [View.set_slice_whole, Rect.mem_set_unit]
    intro a
    have h0 : (j 0 : Nat) < 16 := (j 0).isLt
    have h1 : (j 1 : Nat) < 9216 := (j 1).isLt
    match a with
    | ⟨0, _⟩ =>
      show win0_11.index t 0 * 16 ≤ (j 0 : Nat) ∧ (j 0 : Nat) < win0_11.index t 0 * 16 + 16
      rw [(idx_11 _).1]; omega
    | ⟨1, _⟩ =>
      show win0_11.index t 1 * 512 ≤ (j 1 : Nat) ∧ (j 1 : Nat) < win0_11.index t 1 * 512 + 512
      rw [(idx_11 _).2]; rw [ht]; omega

/-- The magnitudes' gradient. -/
theorem final_12 (c : Dev nD) : (dats m 0 c).arrAt 12 cfg0.N = fun j => (argsK m c).dm (j 1) := by
  refine (dats m 0 c).arrAt_eq_of_cover 12 (fun j => (argsK m c).dm (j 1)) (fun t hf => ?_) fun j => ?_
  · funext j
    obtain ⟨q, r, rfl⟩ : ∃ (q : Fin 1) (r : Fin 512), j = ix2 q r := ⟨j 0, j 1, eq_ix2 j⟩
    rw [View.read_apply]
    have he : ((cfg0.win 12).blk t).view.emb (ix2 q r) = (ix2 q (row (bk t) r) : (⟨2, ![1, 9216]⟩ : Shape).Idx) := funext fun a => Fin.ext (by
      match a with
      | ⟨0, _⟩ => show win0_12.index t 0 * 1 + 1 * q.val = q.val; rw [(idx_12 t).1]; omega
      | ⟨1, _⟩ => show win0_12.index t 1 * 512 + 1 * r.val = t.val * 512 + r.val; rw [(idx_12 t).2]; omega)
    rw [he]
    show (dats m 0 c).after 12 t (ix2 q r) = _
    rw [after_12]
    obtain rfl : q = 0 := Subsingleton.elim _ _
    exact dmVal_at (blocks m c t) r
  · obtain ⟨t, ht⟩ : ∃ t : Fin cfg0.N, t.val = (j 1).val / 512 :=
      ⟨⟨(j 1).val / 512, lt_of_lt_of_eq (Nat.div_lt_of_lt_mul (show (j 1).val < 512 * 18 from (j 1).isLt)) N_0.symm⟩, rfl⟩
    refine ⟨t, flush0_12 t, ?_⟩
    show j ∈ ((View.whole main_v6_3).slice (win0_12.rect t)).set
    rw [View.set_slice_whole, Rect.mem_set_unit]
    intro a
    have h0 : (j 0 : Nat) < 1 := (j 0).isLt
    have h1 : (j 1 : Nat) < 9216 := (j 1).isLt
    match a with
    | ⟨0, _⟩ =>
      show win0_12.index t 0 * 1 ≤ (j 0 : Nat) ∧ (j 0 : Nat) < win0_12.index t 0 * 1 + 1
      rw [(idx_12 _).1]; omega
    | ⟨1, _⟩ =>
      show win0_12.index t 1 * 512 ≤ (j 1 : Nat) ∧ (j 1 : Nat) < win0_12.index t 1 * 512 + 512
      rw [(idx_12 _).2]; rw [ht]; omega

/-- Tokens times directions. -/
theorem final_13 (c : Dev nD) : (dats m 0 c).arrAt 13 cfg0.N = fun j => (argsK m c).z (j 0) (j 1) := by
  refine (dats m 0 c).arrAt_eq_of_cover 13 (fun j => (argsK m c).z (j 0) (j 1)) (fun t hf => ?_) fun j => ?_
  · funext j
    obtain ⟨q, r, rfl⟩ : ∃ (q : Fin 1536) (r : Fin 512), j = ix2 q r := ⟨j 0, j 1, eq_ix2 j⟩
    rw [View.read_apply]
    have he : ((cfg0.win 13).blk t).view.emb (ix2 q r) = (ix2 q (row (bk t) r) : (⟨2, ![1536, 9216]⟩ : Shape).Idx) := funext fun a => Fin.ext (by
      match a with
      | ⟨0, _⟩ => show win0_13.index t 0 * 1536 + 1 * q.val = q.val; rw [(idx_13 t).1]; omega
      | ⟨1, _⟩ => show win0_13.index t 1 * 512 + 1 * r.val = t.val * 512 + r.val; rw [(idx_13 t).2]; omega)
    rw [he]
    show (dats m 0 c).after 13 t (ix2 q r) = _
    rw [after_13]
    exact zVal_at (blocks m c t) q r
  · obtain ⟨t, ht⟩ : ∃ t : Fin cfg0.N, t.val = (j 1).val / 512 :=
      ⟨⟨(j 1).val / 512, lt_of_lt_of_eq (Nat.div_lt_of_lt_mul (show (j 1).val < 512 * 18 from (j 1).isLt)) N_0.symm⟩, rfl⟩
    refine ⟨t, flush0_13 t, ?_⟩
    show j ∈ ((View.whole main_v6_4).slice (win0_13.rect t)).set
    rw [View.set_slice_whole, Rect.mem_set_unit]
    intro a
    have h0 : (j 0 : Nat) < 1536 := (j 0).isLt
    have h1 : (j 1 : Nat) < 9216 := (j 1).isLt
    match a with
    | ⟨0, _⟩ =>
      show win0_13.index t 0 * 1536 ≤ (j 0 : Nat) ∧ (j 0 : Nat) < win0_13.index t 0 * 1536 + 1536
      rw [(idx_13 _).1]; omega
    | ⟨1, _⟩ =>
      show win0_13.index t 1 * 512 ≤ (j 1 : Nat) ∧ (j 1 : Nat) < win0_13.index t 1 * 512 + 512
      rw [(idx_13 _).2]; rw [ht]; omega

/-- Tokens times the first factor. -/
theorem final_14 (c : Dev nD) : (dats m 0 c).arrAt 14 cfg0.N = fun j => (argsK m c).xa (j 0) (j 1) := by
  refine (dats m 0 c).arrAt_eq_of_cover 14 (fun j => (argsK m c).xa (j 0) (j 1)) (fun t hf => ?_) fun j => ?_
  · have h17 : t.val = 17 := by have h := (flush0_14 t).mp hf; have := lt_of_lt_of_eq t.isLt N_0; omega
    funext j
    obtain ⟨q, r, rfl⟩ : ∃ (q : Fin 1536) (r : Fin 16), j = ix2 q r := ⟨j 0, j 1, eq_ix2 j⟩
    rw [View.read_apply]
    have he : ((cfg0.win 14).blk t).view.emb (ix2 q r) = (ix2 q r : (⟨2, ![1536, 16]⟩ : Shape).Idx) := funext fun a => Fin.ext (by
      match a with
      | ⟨0, _⟩ => show win0_14.index t 0 * 1536 + 1 * q.val = q.val; rw [(idx_14 t).1]; omega
      | ⟨1, _⟩ => show win0_14.index t 1 * 16 + 1 * r.val = r.val; rw [(idx_14 t).2]; omega)
    rw [he]
    show (dats m 0 c).after 14 t (ix2 q r) = _
    rw [after_14]
    exact xaVal_at (blocks m c (pt 0)) q r
  · refine ⟨pt 17, (flush0_14 (pt 17)).mpr rfl, ?_⟩
    show j ∈ ((View.whole main_v6_5).slice (win0_14.rect (pt 17))).set
    rw [View.set_slice_whole, Rect.mem_set_unit]
    intro a
    have h0 : (j 0 : Nat) < 1536 := (j 0).isLt
    have h1 : (j 1 : Nat) < 16 := (j 1).isLt
    match a with
    | ⟨0, _⟩ =>
      show win0_14.index (pt 17) 0 * 1536 ≤ (j 0 : Nat) ∧ (j 0 : Nat) < win0_14.index (pt 17) 0 * 1536 + 1536
      rw [(idx_14 _).1]; omega
    | ⟨1, _⟩ =>
      show win0_14.index (pt 17) 1 * 16 ≤ (j 1 : Nat) ∧ (j 1 : Nat) < win0_14.index (pt 17) 1 * 16 + 16
      rw [(idx_14 _).2]; omega

/-- The scaled gradient times the second factor. -/
theorem final_15 (c : Dev nD) : (dats m 0 c).arrAt 15 cfg0.N = fun j => (argsK m c).gb (j 0) (j 1) := by
  refine (dats m 0 c).arrAt_eq_of_cover 15 (fun j => (argsK m c).gb (j 0) (j 1)) (fun t hf => ?_) fun j => ?_
  · have h17 : t.val = 17 := by have h := (flush0_15 t).mp hf; have := lt_of_lt_of_eq t.isLt N_0; omega
    funext j
    obtain ⟨q, r, rfl⟩ : ∃ (q : Fin 1536) (r : Fin 16), j = ix2 q r := ⟨j 0, j 1, eq_ix2 j⟩
    rw [View.read_apply]
    have he : ((cfg0.win 15).blk t).view.emb (ix2 q r) = (ix2 q r : (⟨2, ![1536, 16]⟩ : Shape).Idx) := funext fun a => Fin.ext (by
      match a with
      | ⟨0, _⟩ => show win0_15.index t 0 * 1536 + 1 * q.val = q.val; rw [(idx_15 t).1]; omega
      | ⟨1, _⟩ => show win0_15.index t 1 * 16 + 1 * r.val = r.val; rw [(idx_15 t).2]; omega)
    rw [he]
    show (dats m 0 c).after 15 t (ix2 q r) = _
    rw [after_15]
    rw [h17]; exact gbA_at m c q r
  · refine ⟨pt 17, (flush0_15 (pt 17)).mpr rfl, ?_⟩
    show j ∈ ((View.whole main_v6_6).slice (win0_15.rect (pt 17))).set
    rw [View.set_slice_whole, Rect.mem_set_unit]
    intro a
    have h0 : (j 0 : Nat) < 1536 := (j 0).isLt
    have h1 : (j 1 : Nat) < 16 := (j 1).isLt
    match a with
    | ⟨0, _⟩ =>
      show win0_15.index (pt 17) 0 * 1536 ≤ (j 0 : Nat) ∧ (j 0 : Nat) < win0_15.index (pt 17) 0 * 1536 + 1536
      rw [(idx_15 _).1]; omega
    | ⟨1, _⟩ =>
      show win0_15.index (pt 17) 1 * 16 ≤ (j 1 : Nat) ∧ (j 1 : Nat) < win0_15.index (pt 17) 1 * 16 + 16
      rw [(idx_15 _).2]; omega

/-! ## The results -/

/-- The arrays' contents after the run, as the operations that follow find them. -/
abbrev exitV (c : Dev nD) : Valuation τ sig (Elt Ideal) :=
  Pipeline.withArrays spec0 c (V0 m c) fun w => (dats m 0 c).arrAt w cfg0.N

theorem exit_9 (c : Dev nD) : exitV m c (Proc.devRef .tc main_v6_0) = fun j => (argsK m c).dx (j 0) (j 1) :=
  (Pipeline.withArrays_arr spec0 launch0.win.arr_inj c (V0 m c) _ 9).trans (final_9 m c)
theorem exit_11 (c : Dev nD) : exitV m c (Proc.devRef .tc main_v6_2) = fun j => (argsK m c).dlb (j 1) (j 0) :=
  (Pipeline.withArrays_arr spec0 launch0.win.arr_inj c (V0 m c) _ 11).trans (final_11 m c)
theorem exit_12 (c : Dev nD) : exitV m c (Proc.devRef .tc main_v6_3) = fun j => (argsK m c).dm (j 1) :=
  (Pipeline.withArrays_arr spec0 launch0.win.arr_inj c (V0 m c) _ 12).trans (final_12 m c)
theorem exit_13 (c : Dev nD) : exitV m c (Proc.devRef .tc main_v6_4) = fun j => (argsK m c).z (j 0) (j 1) :=
  (Pipeline.withArrays_arr spec0 launch0.win.arr_inj c (V0 m c) _ 13).trans (final_13 m c)
theorem exit_14 (c : Dev nD) : exitV m c (Proc.devRef .tc main_v6_5) = fun j => (argsK m c).xa (j 0) (j 1) :=
  (Pipeline.withArrays_arr spec0 launch0.win.arr_inj c (V0 m c) _ 14).trans (final_14 m c)
theorem exit_15 (c : Dev nD) : exitV m c (Proc.devRef .tc main_v6_6) = fun j => (argsK m c).gb (j 0) (j 1) :=
  (Pipeline.withArrays_arr spec0 launch0.win.arr_inj c (V0 m c) _ 15).trans (final_15 m c)

theorem tail_main_v7 (c : Dev nD) : Pipeline.afterTail₀ cfgs (dats m) 0 (V0 m) [hostOps1] c main_v7 = rdx (argsK m c) := by
  refine (show _ = shapeCast S12x128x2304 (exitV m c (Proc.devRef .tc main_v6_0)) shapeCasts_S1536x2304_S12x128x2304 from rfl).trans ?_
  rw [exit_9]
  funext j
  obtain ⟨b, s, i, rfl⟩ : ∃ (b : Fin 12) (s : Fin 128) (i : Fin 2304), j = ix3 b s i := ⟨j 0, j 1, j 2, eq_ix3 j⟩
  exact split3 _ _ b s i

theorem tail_main_v10 (c : Dev nD) : Pipeline.afterTail₀ cfgs (dats m) 0 (V0 m) [hostOps1] c main_v10 = rz (argsK m c) := by
  refine (show _ = shapeCast S12x128x9216 (exitV m c (Proc.devRef .tc main_v6_4)) shapeCasts_S1536x9216_S12x128x9216 from rfl).trans ?_
  rw [exit_13]
  funext j
  obtain ⟨b, s, i, rfl⟩ : ∃ (b : Fin 12) (s : Fin 128) (i : Fin 9216), j = ix3 b s i := ⟨j 0, j 1, j 2, eq_ix3 j⟩
  exact split3 _ _ b s i

theorem tail_main_v11 (c : Dev nD) : Pipeline.afterTail₀ cfgs (dats m) 0 (V0 m) [hostOps1] c main_v11 = rxa (argsK m c) := by
  refine (show _ = shapeCast S12x128x16 (exitV m c (Proc.devRef .tc main_v6_5)) shapeCasts_S1536x16_S12x128x16 from rfl).trans ?_
  rw [exit_14]
  funext j
  obtain ⟨b, s, i, rfl⟩ : ∃ (b : Fin 12) (s : Fin 128) (i : Fin 16), j = ix3 b s i := ⟨j 0, j 1, j 2, eq_ix3 j⟩
  exact split3 _ _ b s i

theorem tail_main_v12 (c : Dev nD) : Pipeline.afterTail₀ cfgs (dats m) 0 (V0 m) [hostOps1] c main_v12 = rgb (argsK m c) := by
  refine (show _ = shapeCast S12x128x16 (exitV m c (Proc.devRef .tc main_v6_6)) shapeCasts_S1536x16_S12x128x16 from rfl).trans ?_
  rw [exit_15]
  funext j
  obtain ⟨b, s, i, rfl⟩ : ∃ (b : Fin 12) (s : Fin 128) (i : Fin 16), j = ix3 b s i := ⟨j 0, j 1, j 2, eq_ix3 j⟩
  exact split3 _ _ b s i

theorem tail_main_v8 (c : Dev nD) : Pipeline.afterTail₀ cfgs (dats m) 0 (V0 m) [hostOps1] c main_v8 = rdlb (argsK m c) := by
  refine (show _ = transpose S9216x16 [1, 0] (exitV m c (Proc.devRef .tc main_v6_2)) transposes_S16x9216_S9216x16_1_0 from rfl).trans ?_
  rw [exit_11]
  funext j
  obtain ⟨o, r, rfl⟩ : ∃ (o : Fin 9216) (r : Fin 16), j = ix2 o r := ⟨j 0, j 1, eq_ix2 j⟩
  exact transp _ _ o r

theorem tail_main_v9 (c : Dev nD) : Pipeline.afterTail₀ cfgs (dats m) 0 (V0 m) [hostOps1] c main_v9 = rdm (argsK m c) := by
  refine (show _ = shapeCast S9216 (exitV m c (Proc.devRef .tc main_v6_3)) shapeCasts_S1x9216_S9216 from rfl).trans ?_
  rw [exit_12]
  funext j
  obtain ⟨o, rfl⟩ : ∃ o : Fin 9216, j = ix1 o := ⟨j 0, funext fun a => by match a with | ⟨0, _⟩ => rfl⟩
  exact shapeCast_apply _ _ _ (ix2 0 o) (by
    rw [Shape.rowMajor_val_one, Shape.rowMajor_val_two]
    show 0 * 9216 + o.val = o.val; omega)

/-- Every run of the program ends with its results at the formulas and its arguments unchanged. -/
theorem run : θ_run defs (onTc (τ := τ) (main (F := Ideal))) ⟨m, fun _ => 0, ρ⟩ (fun r => ∀ c : Dev nD,
      r.2.mem ((c.tc : Thread nD τ).loc main_v7) = rdx (argsK m c)
      ∧ r.2.mem ((c.tc : Thread nD τ).loc main_v6_1) = rdla (argsK m c)
      ∧ r.2.mem ((c.tc : Thread nD τ).loc main_v8) = rdlb (argsK m c)
      ∧ r.2.mem ((c.tc : Thread nD τ).loc main_v9) = rdm (argsK m c)
      ∧ r.2.mem ((c.tc : Thread nD τ).loc main_v10) = rz (argsK m c)
      ∧ r.2.mem ((c.tc : Thread nD τ).loc main_v11) = rxa (argsK m c)
      ∧ r.2.mem ((c.tc : Thread nD τ).loc main_v12) = rgb (argsK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ (h : _ ∧ _) c => by
    obtain ⟨h, hargs⟩ := h
    exact ⟨((h c).2 main_v7 (Pipeline.mem_restRefs_of main_v7 (by decide) (by decide))).trans (tail_main_v7 m c), ((h c).1 10).trans (final_10 m c),
      ((h c).2 main_v8 (Pipeline.mem_restRefs_of main_v8 (by decide) (by decide))).trans (tail_main_v8 m c), ((h c).2 main_v9 (Pipeline.mem_restRefs_of main_v9 (by decide) (by decide))).trans (tail_main_v9 m c),
      ((h c).2 main_v10 (Pipeline.mem_restRefs_of main_v10 (by decide) (by decide))).trans (tail_main_v10 m c), ((h c).2 main_v11 (Pipeline.mem_restRefs_of main_v11 (by decide) (by decide))).trans (tail_main_v11 m c),
      ((h c).2 main_v12 (Pipeline.mem_restRefs_of main_v12 (by decide) (by decide))).trans (tail_main_v12 m c), hargs c⟩)
    (θ_run_and (run_main m ρ) (unchanged m ρ))

end Cert.KernelIdeal.Hand

end
-- ==== Proof.Reference.lean ====
/- The reference's seven results over the extended reals: every stage of the program, read at an index, is its formula. -/
module

public import proofs.«01_k».proof.Proof.Math
public import proofs.«01_k».proof.Proof.Gen.ReferenceIdeal.Read
public import proofs.«01_k».proof.Proof.Gen.ReferenceIdeal.Run
public import Idealize.ShloMosaic.Lib.TwoAxisContraction
public import Idealize.ShloMosaic.Lib.ValueIdx
public import Idealize.ShloMosaic.Lib.Pipeline.Value

@[expose] public section

set_option maxRecDepth 16384

noncomputable section

namespace Cert.ReferenceIdeal.Hand

open Idealize.ShloMosaic Idealize.ShloMosaic.TcCoe Idealize.ShloMosaic.ValueIdx Idealize.SL.Sem
open Cert.ReferenceIdeal Cert.ReferenceIdeal.Gen Cert.ReferenceIdeal.Read
open Cert.Dora (Args tok bat pos argsOf sum_tok bat_tok pos_tok rdx rdla rdlb rdm rz rxa rgb)
open scoped BigOperators

/-! ## Indices from their coordinates -/

theorem i1 {n : ℕ} (j : (⟨1, ![n]⟩ : Shape).Idx) (a : Fin n) (h : j 0 = a) : j = ix1 a := by
  subst h; funext x; match x with | ⟨0, _⟩ => rfl
theorem i2 {n k : ℕ} (j : (⟨2, ![n, k]⟩ : Shape).Idx) (a : Fin n) (b : Fin k) (h : j 0 = a) (h' : j 1 = b) : j = ix2 a b := by
  subst h h'; exact ValueIdx.eq_ix2 j
theorem i3 {n k l : ℕ} (j : (⟨3, ![n, k, l]⟩ : Shape).Idx) (a : Fin n) (b : Fin k) (c : Fin l) (h : j 0 = a) (h' : j 1 = b) (h'' : j 2 = c) :
    j = ix3 a b c := by
  subst h h' h''; exact ValueIdx.eq_ix3 j

/-! ## The stages -/

/-- The program's inputs and the decoded codes hold the arguments' entries. -/
structure Ins (a : Args) (x0 : (⟨S12x128x2304, .bf16⟩ : BufTy).Contents (Elt Ideal)) (r0 : (⟨S9216x2304, .f32⟩ : BufTy).Contents (Elt Ideal))
    (x2 : (⟨S9216, .f32⟩ : BufTy).Contents (Elt Ideal)) (x3 : (⟨S16x2304, .bf16⟩ : BufTy).Contents (Elt Ideal))
    (x4 : (⟨S9216x16, .bf16⟩ : BufTy).Contents (Elt Ideal)) (x5 : (⟨S9216, .f32⟩ : BufTy).Contents (Elt Ideal))
    (r1 : (⟨S12x128x9216, .f32⟩ : BufTy).Contents (Elt Ideal)) (x7 : (⟨S12x128, .f32⟩ : BufTy).Contents (Elt Ideal)) : Prop where
  h0 : ∀ b s i, x0 (ix3 b s i) = a.X (tok b s) i
  hw : ∀ o i, r0 (ix2 o i) = a.W o i
  h2 : ∀ o, x2 (ix1 o) = a.S o
  h3 : ∀ r i, x3 (ix2 r i) = a.A r i
  h4 : ∀ o r, x4 (ix2 o r) = a.B o r
  h5 : ∀ o, x5 (ix1 o) = a.M o
  hy : ∀ b s o, r1 (ix3 b s o) = a.Y (tok b s) o
  h7 : ∀ b s, x7 (ix2 b s) = a.D (tok b s)

/-- They do. -/
theorem ins_argsOf (x0 : (⟨S12x128x2304, .bf16⟩ : BufTy).Contents (Elt Ideal)) (r0 : (⟨S9216x2304, .f32⟩ : BufTy).Contents (Elt Ideal))
    (x2 : (⟨S9216, .f32⟩ : BufTy).Contents (Elt Ideal)) (x3 : (⟨S16x2304, .bf16⟩ : BufTy).Contents (Elt Ideal))
    (x4 : (⟨S9216x16, .bf16⟩ : BufTy).Contents (Elt Ideal)) (x5 : (⟨S9216, .f32⟩ : BufTy).Contents (Elt Ideal))
    (r1 : (⟨S12x128x9216, .f32⟩ : BufTy).Contents (Elt Ideal)) (x7 : (⟨S12x128, .f32⟩ : BufTy).Contents (Elt Ideal)) :
    Ins (argsOf x0 r0 x2 x3 x4 x5 r1 x7) x0 r0 x2 x3 x4 x5 r1 x7 where
  h0 b s i := by show _ = x0 (ix3 (bat (tok b s)) (pos (tok b s)) i); rw [bat_tok, pos_tok]
  hw _ _ := rfl
  h2 _ := rfl
  h3 _ _ := rfl
  h4 _ _ := rfl
  h5 _ := rfl
  hy b s o := by show _ = r1 (ix3 (bat (tok b s)) (pos (tok b s)) o); rw [bat_tok, pos_tok]
  h7 b s := by show _ = x7 (ix2 (bat (tok b s)) (pos (tok b s))); rw [bat_tok, pos_tok]

section Stages

variable {a : Args} {x0 : (⟨S12x128x2304, .bf16⟩ : BufTy).Contents (Elt Ideal)} {r0 : (⟨S9216x2304, .f32⟩ : BufTy).Contents (Elt Ideal)}
    {x2 : (⟨S9216, .f32⟩ : BufTy).Contents (Elt Ideal)} {x3 : (⟨S16x2304, .bf16⟩ : BufTy).Contents (Elt Ideal)}
    {x4 : (⟨S9216x16, .bf16⟩ : BufTy).Contents (Elt Ideal)} {x5 : (⟨S9216, .f32⟩ : BufTy).Contents (Elt Ideal)}
    {r1 : (⟨S12x128x9216, .f32⟩ : BufTy).Contents (Elt Ideal)} {x7 : (⟨S12x128, .f32⟩ : BufTy).Contents (Elt Ideal)}
variable (h : Ins a x0 r0 x2 x3 x4 x5 r1 x7)
include h

/-- The direction. -/
theorem v5_at (o : Fin 9216) (i : Fin 2304) : val_main_v5 (F := Ideal) x2 x3 x4 r0 (ix2 o i) = a.v o i := by
  have h2 : val_main_v2 (F := Ideal) x2 (ix2 o i) = a.S o := by
    rw [val_main_v2_apply, val_main_v1_apply, i1 (idx_main_v1 (idx_main_v2 (ix2 o i))) o rfl, h.h2]
  have h4 : val_main_v4 (F := Ideal) x3 x4 (ix2 o i) = ∑ r : Fin 16, a.B o r * a.A r i := by
    rw [val_main_v4_apply]
    refine Finset.sum_congr rfl fun r _ => ?_
    rw [i2 (lidx_main_v4 (ix2 o i) r) o r rfl rfl, i2 (ridx_main_v4 (ix2 o i) r) r i rfl rfl, h.h4, h.h3]
  rw [val_main_v5_apply, val_main_v3_apply, h2, h4, h.hw]; rfl

theorem v13_at (o : Fin 9216) (i : Fin 2304) : val_main_v13 (F := Ideal) x2 x3 x4 r0 (ix2 o i) = a.v o i := by
  rw [val_main_v13_apply, v5_at h]; rfl

/-- The norm with zero replaced by one. -/
theorem v11_at (o : Fin 9216) : val_main_v11 (F := Ideal) x2 x3 x4 r0 (ix1 o) = a.n o := by
  have h8 : val_main_v8 (F := Ideal) x2 x3 x4 r0 (ix1 o) = a.s o := by
    rw [val_main_v8_apply, val_main_v7_apply]
    refine congrArg Ideal.sqrt ?_
    rw [val_main_cst_apply]
    refine (congrArg (· + _) Ideal.ofBits_zero_f32).trans ((zero_add _).trans (Finset.sum_congr rfl fun i _ => ?_))
    rw [i2 (idx_main_v7 (ix1 o) i) o i rfl rfl, val_main_v6_apply, v5_at h]; rfl
  rw [val_main_v11_apply, val_main_v10_apply, h8, val_main_v9_apply, val_main_call0_v1_apply]; rfl

/-- The row's factor. -/
theorem v12_at (o : Fin 9216) : val_main_v12 (F := Ideal) x2 x3 x4 x5 r0 (ix1 o) = a.c o := by
  rw [val_main_v12_apply, v11_at h, h.h5]; rfl

/-- Tokens times directions. -/
theorem v14_at (b : Fin 12) (s : Fin 128) (o : Fin 9216) : val_main_v14 (F := Ideal) x0 x2 x3 x4 r0 (ix3 b s o) = a.z (tok b s) o := by
  rw [val_main_v14_apply]
  refine Finset.sum_congr rfl fun i _ => ?_
  rw [i3 (lidx_main_v14 (ix3 b s o) i) b s i rfl rfl rfl, i2 (ridx_main_v14 (ix3 b s o) i) o i rfl rfl, h.h0, v13_at h]

/-- The decoded gradient. -/
theorem v17_at (b : Fin 12) (s : Fin 128) (o : Fin 9216) : val_main_v17 (F := Ideal) x7 r1 (ix3 b s o) = a.dy (tok b s) o := by
  rw [val_main_v17_apply, val_main_v16_apply, val_main_v15_apply, i2 (idx_main_v15 (idx_main_v16 (ix3 b s o))) b s rfl rfl, h.h7, h.hy]; rfl

/-- The gradient times the rows' factors. -/
theorem v24_at (b : Fin 12) (s : Fin 128) (o : Fin 9216) : val_main_v24 (F := Ideal) x2 x3 x4 x5 x7 r0 r1 (ix3 b s o) = a.g (tok b s) o := by
  rw [val_main_v24_apply, val_main_v23_apply, v17_at h, val_main_v22_apply, val_main_v21_apply,
    i1 (idx_main_v21 (idx_main_v22 (ix3 b s o))) o rfl, v12_at h]; rfl

omit h in
/-- A sum over the first two axes of three. -/
theorem reduce01 {p q n : ℕ} {t : Shape} (hr : (⟨3, ![p, q, n]⟩ : Shape).ReducesTo [0, 1] t) (ht : t = ⟨1, ![n]⟩)
    (v : (⟨3, ![p, q, n]⟩ : Shape).Idx → EReal) (init : EReal) (o : Fin n) :
    Ideal.hostReduceAdd hr v init (ht ▸ ix1 o) = init + ∑ b : Fin p, ∑ s : Fin q, v (ix3 b s o) := by
  subst ht
  refine congrArg (init + ·) ((Cert.Dora.sum_fiber _ (fun k : Fin p × Fin q => ix3 k.1 k.2 o)
    (fun _ _ e => Prod.ext (congrFun e 0) (congrFun e 1)) (fun i => ?_) v).trans (Fintype.sum_prod_type _))
  constructor
  · intro e
    refine ⟨(i 0, i 1), ?_⟩
    funext x; apply Fin.ext
    match x with
    | ⟨0, _⟩ => rfl
    | ⟨1, _⟩ => rfl
    | ⟨2, _⟩ => exact (congrArg Fin.val (congrFun e 0)).symm
  · rintro ⟨k, rfl⟩
    funext x; apply Fin.ext
    match x with
    | ⟨0, _⟩ => rfl

/-- The magnitudes' gradient. -/
theorem v20_at (o : Fin 9216) : val_main_v20 (F := Ideal) x0 x2 x3 x4 x7 r0 r1 (ix1 o) = a.dm o := by
  have h19 : val_main_v19 (F := Ideal) x0 x2 x3 x4 x7 r0 r1 (ix1 o) = ∑ t : Fin 1536, a.dy t o * a.z t o := by
    unfold val_main_v19
    refine (reduce01 reducesTo_S12x128x9216_S9216_d0_1 rfl (val_main_v18 (F := Ideal) x0 x2 x3 x4 x7 r0 r1) _ o).trans ?_
    refine (congrArg (· + _) Ideal.ofBits_zero_f32).trans ((zero_add _).trans (Eq.trans ?_ (sum_tok fun t => a.dy t o * a.z t o)))
    refine Finset.sum_congr rfl fun b _ => Finset.sum_congr rfl fun s _ => ?_
    rw [val_main_v18_apply, v17_at h, v14_at h]; rfl
  rw [val_main_v20_apply, h19, v11_at h]; rfl

/-- The tokens' gradient. -/
theorem v26_at (b : Fin 12) (s : Fin 128) (i : Fin 2304) : val_main_v26 (F := Ideal) x2 x3 x4 x5 x7 r0 r1 (ix3 b s i) = a.dx (tok b s) i := by
  rw [val_main_v26_apply, val_main_v25_apply]
  refine Finset.sum_congr rfl fun o _ => ?_
  rw [i3 (lidx_main_v25 (ix3 b s i) o) b s o rfl rfl rfl, i2 (ridx_main_v25 (ix3 b s i) o) o i rfl rfl, v24_at h, v13_at h]

/-- Tokens times the first factor. -/
theorem v28_at (b : Fin 12) (s : Fin 128) (r : Fin 16) : val_main_v28 (F := Ideal) x0 x3 (ix3 b s r) = a.xa (tok b s) r := by
  rw [val_main_v28_apply, val_main_v27_apply]
  refine Finset.sum_congr rfl fun i _ => ?_
  rw [i3 (lidx_main_v27 (ix3 b s r) i) b s i rfl rfl rfl, i2 (ridx_main_v27 (ix3 b s r) i) r i rfl rfl, h.h0, h.h3]

/-- The scaled gradient times the second factor. -/
theorem v30_at (b : Fin 12) (s : Fin 128) (r : Fin 16) : val_main_v30 (F := Ideal) x2 x3 x4 x5 x7 r0 r1 (ix3 b s r) = a.gb (tok b s) r := by
  rw [val_main_v30_apply, val_main_v29_apply]
  refine Finset.sum_congr rfl fun o _ => ?_
  rw [i3 (lidx_main_v29 (ix3 b s r) o) b s o rfl rfl rfl, i2 (ridx_main_v29 (ix3 b s r) o) o r rfl rfl, v24_at h, h.h4]

/-- The projection's coefficients. -/
theorem v33_at (o : Fin 9216) : val_main_v33 (F := Ideal) x0 x2 x3 x4 x5 x7 r0 r1 (ix1 o) = a.k o := by
  rw [val_main_v33_apply, val_main_v31_apply, val_main_v32_apply, v20_at h, v11_at h, h.h5]; rfl

theorem v38_at (o : Fin 9216) (r : Fin 16) : val_main_v38 (F := Ideal) x0 x2 x3 x4 x5 x7 r0 r1 (ix2 o r) = a.B o r * a.k o := by
  rw [val_main_v38_apply, val_main_v37_apply, val_main_v34_apply, val_main_v36_apply, val_main_v35_apply,
    i1 (idx_main_v35 (idx_main_v36 (ix2 o r))) o rfl, v33_at h, h.h4]; rfl

omit h in
/-- A product of two batched arrays contracted over batch and place. -/
theorem dot01 {n k : ℕ} {φ₁ φ₂ : FTy} (d : DotDims ⟨3, ![12, 128, n]⟩ ⟨3, ![12, 128, k]⟩ ⟨2, ![n, k]⟩)
    (hlc : d.lhsContracting = [0, 1]) (hrc : d.rhsContracting = [0, 1]) (hln : d.lhsNonContracting = [2]) (hrn : d.rhsNonContracting = [2])
    (hlb : d.lhsBatch = []) (hrb : d.rhsBatch = [])
    (l : FVec Ideal ⟨3, ![12, 128, n]⟩ φ₁) (r : FVec Ideal ⟨3, ![12, 128, k]⟩ φ₂) (i : Fin n) (j : Fin k) :
    Host.dotGeneral d none l r (ix2 i j) = ∑ b : Fin 12, ∑ s : Fin 128, l (ix3 b s i) * r (ix3 b s j) := by
  obtain ⟨lc, rc, ln, rn, lb, rb, wf⟩ := d
  dsimp only at hlc hrc hln hrn hlb hrb
  subst hlc hrc hln hrn hlb hrb
  simp only [Host.dotGeneral]
  rw [Ideal.dotGeneral_apply, sum_contr2 _ 12 128 rfl rfl rfl]
  refine Finset.sum_congr rfl fun b _ => Finset.sum_congr rfl fun s _ => ?_
  have e0 := contrEquiv2_symm_val0 (⟨[0, 1], [0, 1], [2], [2], [], [], wf⟩ : DotDims ⟨3, ![12, 128, n]⟩ ⟨3, ![12, 128, k]⟩ ⟨2, ![n, k]⟩) 12 128 rfl rfl rfl (b, s)
  have e1 := contrEquiv2_symm_val1 (⟨[0, 1], [0, 1], [2], [2], [], [], wf⟩ : DotDims ⟨3, ![12, 128, n]⟩ ⟨3, ![12, 128, k]⟩ ⟨2, ![n, k]⟩) 12 128 rfl rfl rfl (b, s)
  refine congrArg₂ (· * ·) (congrArg l (i3 _ b s i (Fin.ext ?_) (Fin.ext ?_) (Fin.ext ?_))) (congrArg r (i3 _ b s j (Fin.ext ?_) (Fin.ext ?_) (Fin.ext ?_)))
  · exact e0
  · exact e1
  · rfl
  · exact e0
  · exact e1
  · rfl

/-- The first factor's gradient. -/
theorem v42_at (r : Fin 16) (i : Fin 2304) : val_main_v42 (F := Ideal) x0 x2 x3 x4 x5 x7 r0 r1 (ix2 r i) = a.dla r i := by
  have h39 : val_main_v39 (F := Ideal) x0 x2 x3 x4 x5 x7 r0 r1 (ix2 r i) = ∑ t : Fin 1536, a.gb t r * a.X t i := by
    unfold val_main_v39
    rw [dot01 dot_S12x128x16_S12x128x2304_S16x2304_01_01_2_2_n_n rfl rfl rfl rfl rfl rfl, ← sum_tok]
    simp only [v30_at h, h.h0]
  have h40 : val_main_v40 (F := Ideal) x0 x2 x3 x4 x5 x7 r0 r1 (ix2 r i) = ∑ o : Fin 9216, a.B o r * a.k o * a.v o i := by
    rw [val_main_v40_apply]
    refine Finset.sum_congr rfl fun o _ => ?_
    rw [i2 (lidx_main_v40 (ix2 r i) o) o r rfl rfl, i2 (ridx_main_v40 (ix2 r i) o) o i rfl rfl, v38_at h, v13_at h]
  rw [val_main_v42_apply, val_main_v41_apply, h39, h40]; rfl

/-- The second factor's gradient. -/
theorem v49_at (o : Fin 9216) (r : Fin 16) : val_main_v49 (F := Ideal) x0 x2 x3 x4 x5 x7 r0 r1 (ix2 o r) = a.dlb o r := by
  have h43 : val_main_v43 (F := Ideal) x0 x2 x3 x4 x5 x7 r0 r1 (ix2 o r) = ∑ t : Fin 1536, a.xa t r * a.g t o := by
    unfold val_main_v43
    rw [dot01 dot_S12x128x9216_S12x128x16_S9216x16_01_01_2_2_n_n rfl rfl rfl rfl rfl rfl, ← sum_tok]
    refine Finset.sum_congr rfl fun b _ => Finset.sum_congr rfl fun s _ => ?_
    rw [v24_at h, v28_at h, mul_comm]
  have h45 : val_main_v45 (F := Ideal) x2 x3 x4 r0 (ix2 o r) = ∑ i : Fin 2304, a.A r i * a.v o i := by
    rw [val_main_v45_apply]
    refine Finset.sum_congr rfl fun i _ => ?_
    rw [i2 (lidx_main_v45 (ix2 o r) i) o i rfl rfl, i2 (ridx_main_v45 (ix2 o r) i) r i rfl rfl, v13_at h, h.h3, mul_comm]
  rw [val_main_v49_apply, val_main_v48_apply, val_main_v47_apply, h43, h45, val_main_v46_apply, val_main_v44_apply,
    i1 (idx_main_v44 (idx_main_v46 (ix2 o r))) o rfl, v33_at h]; rfl

/-- Tokens times directions, as returned. -/
theorem v50_at (b : Fin 12) (s : Fin 128) (o : Fin 9216) : val_main_v50 (F := Ideal) x0 x2 x3 x4 r0 (ix3 b s o) = a.z (tok b s) o := by
  rw [val_main_v50_apply, v14_at h]; rfl

/-! ## The seven results as whole arrays -/

theorem v26_eq : val_main_v26 (F := Ideal) x2 x3 x4 x5 x7 r0 r1 = rdx a := by
  funext j; obtain ⟨b, s, i, rfl⟩ : ∃ (b : Fin 12) (s : Fin 128) (i : Fin 2304), j = ix3 b s i := ⟨j 0, j 1, j 2, ValueIdx.eq_ix3 j⟩
  exact v26_at h b s i
theorem v42_eq : val_main_v42 (F := Ideal) x0 x2 x3 x4 x5 x7 r0 r1 = rdla a := by
  funext j; obtain ⟨r, i, rfl⟩ : ∃ (r : Fin 16) (i : Fin 2304), j = ix2 r i := ⟨j 0, j 1, ValueIdx.eq_ix2 j⟩
  exact v42_at h r i
theorem v49_eq : val_main_v49 (F := Ideal) x0 x2 x3 x4 x5 x7 r0 r1 = rdlb a := by
  funext j; obtain ⟨o, r, rfl⟩ : ∃ (o : Fin 9216) (r : Fin 16), j = ix2 o r := ⟨j 0, j 1, ValueIdx.eq_ix2 j⟩
  exact v49_at h o r
theorem v20_eq : val_main_v20 (F := Ideal) x0 x2 x3 x4 x7 r0 r1 = rdm a := by
  funext j; obtain ⟨o, rfl⟩ : ∃ o : Fin 9216, j = ix1 o := ⟨j 0, i1 j _ rfl⟩
  exact v20_at h o
theorem v50_eq : val_main_v50 (F := Ideal) x0 x2 x3 x4 r0 = rz a := by
  funext j; obtain ⟨b, s, o, rfl⟩ : ∃ (b : Fin 12) (s : Fin 128) (o : Fin 9216), j = ix3 b s o := ⟨j 0, j 1, j 2, ValueIdx.eq_ix3 j⟩
  exact v50_at h b s o
theorem v28_eq : val_main_v28 (F := Ideal) x0 x3 = rxa a := by
  funext j; obtain ⟨b, s, r, rfl⟩ : ∃ (b : Fin 12) (s : Fin 128) (r : Fin 16), j = ix3 b s r := ⟨j 0, j 1, j 2, ValueIdx.eq_ix3 j⟩
  exact v28_at h b s r
theorem v30_eq : val_main_v30 (F := Ideal) x2 x3 x4 x5 x7 r0 r1 = rgb a := by
  funext j; obtain ⟨b, s, r, rfl⟩ : ∃ (b : Fin 12) (s : Fin 128) (r : Fin 16), j = ix3 b s r := ⟨j 0, j 1, j 2, ValueIdx.eq_ix3 j⟩
  exact v30_at h b s r

end Stages

/-! ## The decoded codes -/

variable (m : (ℓ : Loc nD τ sig) → Buf (Elt Ideal) ℓ) (ρ : Dev nD → PrngReg)

theorem z2 : (![0, 0] : Fin 2 → Nat) = fun _ => 0 := funext fun a => by fin_cases a <;> rfl
theorem z3 : (![0, 0, 0] : Fin 3 → Nat) = fun _ => 0 := funext fun a => by fin_cases a <;> rfl

/-- The first decoded array holds the weight's codes, -/
theorem reg_w (c : Dev nD) : Value.reg_main_v0_0 m c = fun j => m ((c.tc : Thread nD τ).loc main_arg1) j := by
  refine (dats m 0 c).arrAt_eq_of_cover 2 (fun j => m ((c.tc : Thread nD τ).loc main_arg1) j) (fun t _ => ?_) fun j => ?_
  · show (cfg0.win 2).cut (grid0.coords t) ((dats m 0 c).after 2 t) = _
    rw [after0_2]
    unfold out0_2
    rw [View.canon_unit_zero z2, View.ld_unit_zero z2]
    funext j
    rw [View.read_apply]
    show V m c main_arg1 _ = _
    rw [V_main_arg1]; rfl
  · refine ⟨t0_0, flush0_2 _, ?_⟩
    show j ∈ ((View.whole main_v0_0).slice (win0_2.rect t0_0)).set
    rw [View.set_slice_whole, Rect.mem_set_unit]
    intro a
    have h0 : (j 0 : Nat) < 9216 := (j 0).isLt
    have h1 : (j 1 : Nat) < 2304 := (j 1).isLt
    match a with
    | ⟨0, _⟩ => show 0 * 9216 ≤ (j 0 : Nat) ∧ (j 0 : Nat) < 0 * 9216 + 9216; omega
    | ⟨1, _⟩ => show 0 * 2304 ≤ (j 1 : Nat) ∧ (j 1 : Nat) < 0 * 2304 + 2304; omega

/-- and the second the gradient's. -/
theorem reg_y (c : Dev nD) : Value.reg_main_v0_1 m c = fun j => m ((c.tc : Thread nD τ).loc main_arg6) j := by
  refine (dats m 0 c).arrAt_eq_of_cover 3 (fun j => m ((c.tc : Thread nD τ).loc main_arg6) j) (fun t _ => ?_) fun j => ?_
  · show (cfg0.win 3).cut (grid0.coords t) ((dats m 0 c).after 3 t) = _
    rw [after0_3]
    unfold out0_3
    rw [View.canon_unit_zero z3, View.ld_unit_zero z3]
    funext j
    rw [View.read_apply]
    show V m c main_arg6 _ = _
    rw [V_main_arg6]; rfl
  · refine ⟨t0_0, flush0_3 _, ?_⟩
    show j ∈ ((View.whole main_v0_1).slice (win0_3.rect t0_0)).set
    rw [View.set_slice_whole, Rect.mem_set_unit]
    intro a
    have h0 : (j 0 : Nat) < 12 := (j 0).isLt
    have h1 : (j 1 : Nat) < 128 := (j 1).isLt
    have h2 : (j 2 : Nat) < 9216 := (j 2).isLt
    match a with
    | ⟨0, _⟩ => show 0 * 12 ≤ (j 0 : Nat) ∧ (j 0 : Nat) < 0 * 12 + 12; omega
    | ⟨1, _⟩ => show 0 * 128 ≤ (j 1 : Nat) ∧ (j 1 : Nat) < 0 * 128 + 128; omega
    | ⟨2, _⟩ => show 0 * 9216 ≤ (j 2 : Nat) ∧ (j 2 : Nat) < 0 * 9216 + 9216; omega

/-- The arguments as launched. -/
def argsR (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem ins (c : Dev nD) : Ins (argsR m c) (m ((c.tc : Thread nD τ).loc main_arg0)) (Value.reg_main_v0_0 m c)
    (m ((c.tc : Thread nD τ).loc main_arg2)) (m ((c.tc : Thread nD τ).loc main_arg3)) (m ((c.tc : Thread nD τ).loc main_arg4))
    (m ((c.tc : Thread nD τ).loc main_arg5)) (Value.reg_main_v0_1 m c) (m ((c.tc : Thread nD τ).loc main_arg7)) := by
  rw [reg_w, reg_y]
  exact ins_argsOf _ _ _ _ _ _ _ _

/-- Every run of the program ends with its results at the formulas and its arguments unchanged. -/
theorem run : θ_run defs (onTc (τ := τ) (main (F := Ideal))) ⟨m, fun _ => 0, ρ⟩ (fun r => ∀ c : Dev nD,
      r.2.mem ((c.tc : Thread nD τ).loc main_v26) = rdx (argsR m c)
      ∧ r.2.mem ((c.tc : Thread nD τ).loc main_v42) = rdla (argsR m c)
      ∧ r.2.mem ((c.tc : Thread nD τ).loc main_v49) = rdlb (argsR m c)
      ∧ r.2.mem ((c.tc : Thread nD τ).loc main_v20) = rdm (argsR m c)
      ∧ r.2.mem ((c.tc : Thread nD τ).loc main_v50) = rz (argsR m c)
      ∧ r.2.mem ((c.tc : Thread nD τ).loc main_v28) = rxa (argsR m c)
      ∧ r.2.mem ((c.tc : Thread nD τ).loc main_v30) = rgb (argsR m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => by
    obtain ⟨h0, h1, h2, h3, h4, h5, h6, hargs⟩ := h c
    exact ⟨h0.trans (v26_eq (ins m c)), h1.trans (v42_eq (ins m c)), h2.trans (v49_eq (ins m c)), h3.trans (v20_eq (ins m c)),
      h4.trans (v50_eq (ins m c)), h5.trans (v28_eq (ins m c)), h6.trans (v30_eq (ins m c)), hargs⟩)
    (Value.run m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init
public import proofs.«01_k».proof.Proof.Run
public import proofs.«01_k».proof.Proof.KernelFrame
public import proofs.«01_k».proof.Proof.Values
public import proofs.«01_k».proof.Proof.Reference

@[expose] public section

noncomputable section

namespace Cert.Proof

open Idealize.ShloMosaic Idealize.SL.Sem Cert.Dora

/-- From equal arguments the two programs compute equal results, all seven of them. -/
theorem algebraic : letI := Cert.KernelIdeal.Gen.facts; letI := Cert.ReferenceIdeal.Gen.facts
    algebraic_KernelIdeal_ReferenceIdeal := by
  intro m g m' g' _ hm
  have hargs : ∀ c, Cert.ReferenceIdeal.Hand.argsR m' c = Cert.KernelIdeal.Hand.argsK m c := by
    intro c
    obtain ⟨h0, h1, h2, h3, h4, h5, h6, h7⟩ := hm c
    unfold Cert.ReferenceIdeal.Hand.argsR Cert.KernelIdeal.Hand.argsK
    rw [h0, h1, h2, h3, h4, h5, h6, h7]
  refine ⟨fun c => rdx (Cert.KernelIdeal.Hand.argsK m c), fun c => rdla (Cert.KernelIdeal.Hand.argsK m c),
    fun c => rdlb (Cert.KernelIdeal.Hand.argsK m c), fun c => rdm (Cert.KernelIdeal.Hand.argsK m c),
    fun c => rz (Cert.KernelIdeal.Hand.argsK m c), fun c => rxa (Cert.KernelIdeal.Hand.argsK m c),
    fun c => rgb (Cert.KernelIdeal.Hand.argsK m c), Cert.KernelIdeal.Hand.run m g, ?_⟩
  refine (θ_run _ _ _).mono (fun _ h c => ?_) (Cert.ReferenceIdeal.Hand.run m' g')
  simpa only [hargs c] using h c

theorem claim : Cert.Claim :=
  ⟨Cert.Kernel.Gen.facts, Cert.KernelIdeal.Gen.facts, Cert.ReferenceIdeal.Gen.facts,
    fun m g _ => Cert.Kernel.Hand.frame m g, fun m g _ => Cert.KernelIdeal.Hand.frame m g,
    fun m g _ => Cert.ReferenceIdeal.Gen.frame m g, trivial, algebraic⟩

end Cert.Proof

end
